-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x1024 : Shape := ⟨2, ![2048, 1024]⟩
abbrev S2048x512 : Shape := ⟨2, ![2048, 512]⟩
abbrev S16x512x512 : Shape := ⟨3, ![16, 512, 512]⟩
abbrev S50000x1024 : Shape := ⟨2, ![50000, 1024]⟩
abbrev S50000 : Shape := ⟨1, ![50000]⟩
abbrev S1024 : Shape := ⟨1, ![1024]⟩
abbrev S1 : Shape := ⟨1, ![1]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S50000x1024 : S_.BroadcastsInDim S50000x1024 (![] : Fin 0 → Fin S50000x1024.rank)
  reducesTo_S50000x1024_S_d0_1 : S50000x1024.ReducesTo [0, 1] S_
  bcast_S_S50000 : S_.BroadcastsInDim S50000 (![] : Fin 0 → Fin S50000.rank)
  reducesTo_S50000_S_d0 : S50000.ReducesTo [0] S_

variable [Facts]

def fn {F : FTy → Type} [FloatOps F] (main_arg0 : FVec F S2048x1024 .f32) (main_arg1 : FVec F S2048x512 .f32) (main_arg2 : FVec F S16x512x512 .f32) (main_arg3 : FVec F S50000x1024 .f32) (main_arg4 : FVec F S50000 .f32) (main_arg5 : FVec F S1024 .f32) (main_arg6 : FVec F S1 .f32) (main_arg7 : IVec S_ 32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S50000x1024 .f32 := Host.absf main_arg3
  let main_cst_0 : FVec F S_ .f32 := constant S_ .f32 0x7F800000#32
  let main_v5 : FVec F S50000x1024 .f32 := broadcastInDim S50000x1024 ![] bcast_S_S50000x1024 main_cst_0
  let main_v6 : IVec S50000x1024 1 := cmpf .olt main_v4 main_v5
  let main_c_1 : IVec S_ 1 := constantI S_ 1 1#1
  let main_v7 : IVec S_ 1 := (fun x v => Host.reduce IntOp.andi x v reducesTo_S50000x1024_S_d0_1 h_S_) main_v6 main_c_1
  let main_v8 : IVec S_ 1 := andi main_v3 main_v7
  let main_v9 : FVec F S50000 .f32 := Host.absf main_arg4
  let main_cst_2 : FVec F S_ .f32 := constant S_ .f32 0x7F800000#32
  let main_v10 : FVec F S50000 .f32 := broadcastInDim S50000 ![] bcast_S_S50000 main_cst_2
  let main_v11 : IVec S50000 1 := cmpf .olt main_v9 main_v10
  let main_c_3 : IVec S_ 1 := constantI S_ 1 1#1
  let main_v12 : IVec S_ 1 := (fun x v => Host.reduce IntOp.andi x v reducesTo_S50000_S_d0 h_S_) main_v11 main_c_3
  let main_v13 : IVec S_ 1 := andi main_v8 main_v12
  main_v13
-- ==== Kernel.lean ====
abbrev S2048x1024 : Shape := ⟨2, ![2048, 1024]⟩
abbrev S2048x512 : Shape := ⟨2, ![2048, 512]⟩
abbrev S16x512x512 : Shape := ⟨3, ![16, 512, 512]⟩
abbrev S50000x1024 : Shape := ⟨2, ![50000, 1024]⟩
abbrev S50000 : Shape := ⟨1, ![50000]⟩
abbrev S1024 : Shape := ⟨1, ![1024]⟩
abbrev S1 : Shape := ⟨1, ![1]⟩
abbrev S_ : Shape := ⟨0, ![]⟩
abbrev S1200 : Shape := ⟨1, ![1200]⟩
abbrev S51200 : Shape := ⟨1, ![51200]⟩
abbrev S1x51200 : Shape := ⟨2, ![1, 51200]⟩
abbrev S1024x1 : Shape := ⟨2, ![1024, 1]⟩
abbrev S1x1 : Shape := ⟨2, ![1, 1]⟩
abbrev S2048x128 : Shape := ⟨2, ![2048, 128]⟩
abbrev S2048x2048 : Shape := ⟨2, ![2048, 2048]⟩
abbrev S128x1024 : Shape := ⟨2, ![128, 1024]⟩
abbrev S128x512 : Shape := ⟨2, ![128, 512]⟩
abbrev S1x512x512 : Shape := ⟨3, ![1, 512, 512]⟩
abbrev S128x128 : Shape := ⟨2, ![128, 128]⟩
abbrev S128x2048 : Shape := ⟨2, ![128, 2048]⟩
abbrev S128x1 : Shape := ⟨2, ![128, 1]⟩
abbrev S512x512 : Shape := ⟨2, ![512, 512]⟩
abbrev S128x848 : Shape := ⟨2, ![128, 848]⟩
abbrev S128x688 : Shape := ⟨2, ![128, 688]⟩
abbrev S2048x51200 : Shape := ⟨2, ![2048, 51200]⟩
abbrev S1280x1024 : Shape := ⟨2, ![1280, 1024]⟩
abbrev S1x1280 : Shape := ⟨2, ![1, 1280]⟩
abbrev S2048x1280 : Shape := ⟨2, ![2048, 1280]⟩
abbrev S2048x1 : Shape := ⟨2, ![2048, 1]⟩
abbrev S2048 : Shape := ⟨1, ![2048]⟩
abbrev S2048x50512 : Shape := ⟨2, ![2048, 50512]⟩
abbrev S1024x2048 : Shape := ⟨2, ![1024, 2048]⟩
abbrev S1024x128 : Shape := ⟨2, ![1024, 128]⟩

abbrev nBuf : Space → Nat
  | .hbm => 28
  | .vmem => 35
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S16x512x512, .f32⟩
  | .hbm, ⟨3, _⟩ => ⟨S50000x1024, .f32⟩
  | .hbm, ⟨4, _⟩ => ⟨S50000, .f32⟩
  | .hbm, ⟨5, _⟩ => ⟨S1024, .f32⟩
  | .hbm, ⟨6, _⟩ => ⟨S1, .f32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1, .i32⟩
  | .hbm, ⟨14, _⟩ => ⟨S_, .f32⟩
  | .hbm, ⟨15, _⟩ => ⟨S50000, .f32⟩
  | .hbm, ⟨16, _⟩ => ⟨S_, .f32⟩
  | .hbm, ⟨17, _⟩ => ⟨S1200, .f32⟩
  | .hbm, ⟨18, _⟩ => ⟨S51200, .f32⟩
  | .hbm, ⟨19, _⟩ => ⟨S1x51200, .f32⟩
  | .hbm, ⟨20, _⟩ => ⟨S1024x1, .f32⟩
  | .hbm, ⟨21, _⟩ => ⟨S1x1, .f32⟩
  | .hbm, ⟨22, _⟩ => ⟨S2048x128, .f32⟩
  | .hbm, ⟨23, _⟩ => ⟨S2048x2048, .f32⟩
  | .hbm, ⟨24, _⟩ => ⟨S2048x51200, .bf16⟩
  | .hbm, ⟨25, _⟩ => ⟨S2048x128, .f32⟩
  | .hbm, ⟨26, _⟩ => ⟨S2048x128, .f32⟩
  | .hbm, ⟨27, _⟩ => ⟨S2048x50512, .f32⟩
  | .local _ .vmem, ⟨0, _⟩ => ⟨S128x1024, .f32⟩
  | .local _ .vmem, ⟨1, _⟩ => ⟨S128x1024, .f32⟩
  | .local _ .vmem, ⟨2, _⟩ => ⟨S128x512, .f32⟩
  | .local _ .vmem, ⟨3, _⟩ => ⟨S128x512, .f32⟩
  | .local _ .vmem, ⟨4, _⟩ => ⟨S1x512x512, .f32⟩
  | .local _ .vmem, ⟨5, _⟩ => ⟨S1x512x512, .f32⟩
  | .local _ .vmem, ⟨6, _⟩ => ⟨S1024x1, .f32⟩
  | .local _ .vmem, ⟨7, _⟩ => ⟨S1x1, .f32⟩
  | .local _ .vmem, ⟨8, _⟩ => ⟨S128x128, .f32⟩
  | .local _ .vmem, ⟨9, _⟩ => ⟨S128x128, .f32⟩
  | .local _ .vmem, ⟨10, _⟩ => ⟨S128x2048, .f32⟩
  | .local _ .vmem, ⟨11, _⟩ => ⟨S128x2048, .f32⟩
  | .local _ .vmem, ⟨12, _⟩ => ⟨S2048x1024, .f32⟩
  | .local _ .vmem, ⟨13, _⟩ => ⟨S1280x1024, .f32⟩
  | .local _ .vmem, ⟨14, _⟩ => ⟨S1280x1024, .f32⟩
  | .local _ .vmem, ⟨15, _⟩ => ⟨S1x1280, .f32⟩
  | .local _ .vmem, ⟨16, _⟩ => ⟨S1x1280, .f32⟩
  | .local _ .vmem, ⟨17, _⟩ => ⟨S2048x1280, .bf16⟩
  | .local _ .vmem, ⟨18, _⟩ => ⟨S2048x1280, .bf16⟩
  | .local _ .vmem, ⟨19, _⟩ => ⟨S2048x128, .f32⟩
  | .local _ .vmem, ⟨20, _⟩ => ⟨S2048x128, .f32⟩
  | .local _ .vmem, ⟨21, _⟩ => ⟨S2048x1, .f32⟩
  | .local _ .vmem, ⟨22, _⟩ => ⟨S2048x1, .f32⟩
  | .local _ .vmem, ⟨23, _⟩ => ⟨S1024x2048, .bf16⟩
  | .local _ .vmem, ⟨24, _⟩ => ⟨S1024x2048, .bf16⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | .local _ .vmem, ⟨31, _⟩ => ⟨S1024x2048, .f32⟩
  | .local _ .vmem, ⟨32, _⟩ => ⟨S1024x2048, .f32⟩
  | .local _ .vmem, ⟨33, _⟩ => ⟨S1024x2048, .f32⟩
  | .local _ .vmem, ⟨34, _⟩ => ⟨S1024x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_c_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_scratch0 : Ref sig .tc := ⟨.vmem, 21, rfl⟩
abbrev cc1_scratch1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg4_1 : Ref sig .tc := ⟨.vmem, 32, rfl⟩
abbrev cc2_stg5_0 : Ref sig .tc := ⟨.vmem, 33, rfl⟩
abbrev cc2_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![40], ![false]⟩

def k1_cond2 (i : grid1.Coords) : BitVec 1 :=
  let arg0 : BitVec 32 := BitVec.ofNat 32 (i 0).val
  let c39_i32 : BitVec 32 := 39#32
  let v10 : BitVec 1 := Scalar.cmpi .slt arg0 c39_i32
  let v11 : BitVec 32 := Scalar.extui v10
  let c0_i32_6 : BitVec 32 := 0#32
  let v12 : BitVec 1 := Scalar.cmpi .ne v11 c0_i32_6
  v12

def k1_cond3 (i : grid1.Coords) : BitVec 1 :=
  let arg0 : BitVec 32 := BitVec.ofNat 32 (i 0).val
  let c39_i32_7 : BitVec 32 := 39#32
  let v13 : BitVec 1 := Scalar.cmpi .eq arg0 c39_i32_7
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1280x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x1280 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S2048x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨2, ![2, 25], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1024x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== KernelIdeal.lean ====
variable {F : FTy → Type} [FloatOps F] [Named F]
def κ : String → Option EReal := fun
  | "neg" => some ⊥
  | _ => none
-- ==== ReferenceIdeal.lean ====
abbrev S2048x1024 : Shape := ⟨2, ![2048, 1024]⟩
abbrev S2048x512 : Shape := ⟨2, ![2048, 512]⟩
abbrev S16x512x512 : Shape := ⟨3, ![16, 512, 512]⟩
abbrev S50000x1024 : Shape := ⟨2, ![50000, 1024]⟩
abbrev S50000 : Shape := ⟨1, ![50000]⟩
abbrev S1024 : Shape := ⟨1, ![1024]⟩
abbrev S1 : Shape := ⟨1, ![1]⟩
abbrev S_ : Shape := ⟨0, ![]⟩
abbrev S1024x50000 : Shape := ⟨2, ![1024, 50000]⟩
abbrev S2048x50000 : Shape := ⟨2, ![2048, 50000]⟩
abbrev S1x50000 : Shape := ⟨2, ![1, 50000]⟩
abbrev S2048 : Shape := ⟨1, ![2048]⟩
abbrev S2048x1 : Shape := ⟨2, ![2048, 1]⟩
abbrev S16x128x512 : Shape := ⟨3, ![16, 128, 512]⟩
abbrev S2048x50512 : Shape := ⟨2, ![2048, 50512]⟩

abbrev nBuf : Space → Nat
  | .hbm => 60
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S16x512x512, .f32⟩
  | .hbm, ⟨3, _⟩ => ⟨S50000x1024, .f32⟩
  | .hbm, ⟨4, _⟩ => ⟨S50000, .f32⟩
  | .hbm, ⟨5, _⟩ => ⟨S1024, .f32⟩
  | .hbm, ⟨6, _⟩ => ⟨S1, .f32⟩
  | .hbm, ⟨7, _⟩ => ⟨S_, .i32⟩
  | .hbm, ⟨8, _⟩ => ⟨S1024x50000, .f32⟩
  | .hbm, ⟨9, _⟩ => ⟨S2048x50000, .f32⟩
  | .hbm, ⟨10, _⟩ => ⟨S1x50000, .f32⟩
  | .hbm, ⟨11, _⟩ => ⟨S2048x50000, .f32⟩
  | .hbm, ⟨12, _⟩ => ⟨S2048x50000, .f32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1, .i32⟩
  | .hbm, ⟨19, _⟩ => ⟨S_, .f32⟩
  | .hbm, ⟨20, _⟩ => ⟨S2048, .f32⟩
  | .hbm, ⟨21, _⟩ => ⟨S2048x50000, .f32⟩
  | .hbm, ⟨22, _⟩ => ⟨S_, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S2048x1, .f32⟩
  | .hbm, ⟨28, _⟩ => ⟨S2048x50000, .f32⟩
  | .hbm, ⟨29, _⟩ => ⟨S2048x50000, .f32⟩
  | .hbm, ⟨30, _⟩ => ⟨S2048x50000, .f32⟩
  | .hbm, ⟨31, _⟩ => ⟨S_, .f32⟩
  | .hbm, ⟨32, _⟩ => ⟨S2048, .f32⟩
  | .hbm, ⟨33, _⟩ => ⟨S2048x1, .f32⟩
  | .hbm, ⟨34, _⟩ => ⟨S2048x50000, .f32⟩
  | .hbm, ⟨35, _⟩ => ⟨S2048x50000, .f32⟩
  | .hbm, ⟨36, _⟩ => ⟨S2048, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S2048, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S2048x1, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S2048x50000, .f32⟩
  | .hbm, ⟨53, _⟩ => ⟨S2048x50000, .f32⟩
  | .hbm, ⟨54, _⟩ => ⟨S2048x512, .f32⟩
  | .hbm, ⟨55, _⟩ => ⟨S2048x512, .f32⟩
  | .hbm, ⟨56, _⟩ => ⟨S16x128x512, .f32⟩
  | .hbm, ⟨57, _⟩ => ⟨S16x128x512, .f32⟩
  | .hbm, ⟨58, _⟩ => ⟨S2048x512, .f32⟩
  | .hbm, ⟨59, _⟩ => ⟨S2048x50512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Proof.KernelIdeal.K1Run.lean ====
/- The logits kernel on any staging memrefs: what one grid point leaves in each buffer. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.VecWindow
public import Idealize.ShloMosaic.Lib.VecWindow

@[expose] public section

noncomputable section

namespace Cert.KernelIdeal.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
variable {Ix : Type} [DecidableEq Ix] {U : Type} [URA U] {Lvl : Type} [Preorder Lvl]

local notation "𝕄" => MT nD τ sig Ix (Elt F) ℕ U Lvl

variable (𝒱₀ : Variants)

/-- The first condition of the body, as the skeleton prints it. -/
abbrev cond1 (i : grid1.Coords) : BitVec 1 :=
  Scalar.cmpi .ne (Scalar.extui (Scalar.cmpi .eq (BitVec.ofNat 32 (i 0).val) 0#32) : BitVec 32) 0#32

set_option maxHeartbeats 1000000 in
/-- The first point: the running maximum and sum start over. -/
theorem run_first (c : Dev nD) (i : grid1.Coords) (h1 : cond1 i = 1#1) (h2 : k1_cond2 i = 1#1) (h3 : ¬ k1_cond3 i = 1#1)
    (arg1 : Memref sig .tc .vmem S2048x1024 .f32) (harg1 : arg1.IsWhole) (arg2 : Memref sig .tc .vmem S1280x1024 .f32) (harg2 : arg2.IsWhole) (arg3 : Memref sig .tc .vmem S1x1280 .f32) (harg3 : arg3.IsWhole) (arg4 : Memref sig .tc .vmem S2048x1280 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x1 .f32) (harg8 : arg8.IsWhole)
    (x1 : Vec F S2048x1024 .f32) (x2 : Vec F S1280x1024 .f32) (x3 : Vec F S1x1280 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare (k1_pay7 x1 x2 x3) ∗ owns (c : Thread nD τ) arg7 fullShare (k1_pay5 x1 x2 x3 k1_pay1) ∗ owns (c : Thread nD τ) arg8 fullShare (k1_pay6 x1 x2 x3 k1_pay1 k1_pay2)) -∗ K ⟨⟩))
      ⊢ wp frame (wpE (defs₀ (F := F)) 𝒱₀ c none) E (cc1__logits_kernel i arg1 harg1 arg2 harg2 arg3 harg3 arg4 harg4 arg5 harg5 arg6 harg6 arg7 harg7 arg8 harg8) K := by
  simp only [cc1__logits_kernel_eq_skeleton]; unfold cc1__logits_kernel_skel
  unfold owns
  iintro ⟨⟨%f1, %hf1, H1⟩, ⟨%f2, %hf2, H2⟩, ⟨%f3, %hf3, H3⟩, ⟨%d4, %f4, -, H4⟩, ⟨%d7, %f7, -, H7⟩, ⟨%d8, %f8, -, H8⟩, Hk⟩
  obtain rfl := harg1.eq_unread hf1; obtain rfl := harg2.eq_unread hf2; obtain rfl := harg3.eq_unread hf3
  have e1 : View.readAt (Elt F) arg1.view (Rect.unit (s := S2048x1024) ![0, 0] ![2048, 1024] inb_S2048x1024_S2048x1024_0_0).toLoadRect (harg1.unread x1) = x1 := (View.readAt_full _ _ _).trans hf1
  have e2 : View.readAt (Elt F) arg2.view (Rect.unit (s := S1280x1024) ![0, 0] ![1280, 1024] inb_S1280x1024_S1280x1024_0_0).toLoadRect (harg2.unread x2) = x2 := (View.readAt_full _ _ _).trans hf2
  have e3 : View.readAt (Elt F) arg3.view (Rect.unit (s := S1x1280) ![0, 0] ![1, 1280] inb_S1x1280_S1x1280_0_0).toLoadRect (harg3.unread x3) = x3 := (View.readAt_full _ _ _).trans hf3
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro; refine (View.read_writes_full _ _ _ _ _).trans ?_; simp only [e1, e2, e3]
  isplitl [H7]
  · iexists _; isplitr; swap; · iexact H7
    ipureintro; refine (View.read_writes_full _ _ _ _ _).trans ?_; exact congrArg (k1_pay5 x1 x2 x3) (View.readCov_full _ _ _ _ _)
  · iexists _; isplitr; swap; · iexact H8
    ipureintro; refine (View.read_writes_full _ _ _ _ _).trans ?_; exact congrArg₂ (k1_pay6 x1 x2 x3) (View.readCov_full _ _ _ _ _) (View.readCov_full _ _ _ _ _)

set_option maxHeartbeats 1000000 in
/-- A point that is neither the first nor the last: the running maximum and sum move on over the point's block. -/
theorem run_mid (c : Dev nD) (i : grid1.Coords) (h1 : ¬ cond1 i = 1#1) (h2 : k1_cond2 i = 1#1) (h3 : ¬ k1_cond3 i = 1#1)
    (arg1 : Memref sig .tc .vmem S2048x1024 .f32) (harg1 : arg1.IsWhole) (arg2 : Memref sig .tc .vmem S1280x1024 .f32) (harg2 : arg2.IsWhole) (arg3 : Memref sig .tc .vmem S1x1280 .f32) (harg3 : arg3.IsWhole) (arg4 : Memref sig .tc .vmem S2048x1280 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x1 .f32) (harg8 : arg8.IsWhole)
    (x1 : Vec F S2048x1024 .f32) (x2 : Vec F S1280x1024 .f32) (x3 : Vec F S1x1280 .f32) (xm xs : Vec F S2048x1 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ (∃ d, owns (c : Thread nD τ) arg4 fullShare d) ∗ owns (c : Thread nD τ) arg7 fullShare xm ∗ owns (c : Thread nD τ) arg8 fullShare xs
        ∗ (iprop(owns (c : Thread nD τ) arg1 fullShare x1 ∗ owns (c : Thread nD τ) arg2 fullShare x2 ∗ owns (c : Thread nD τ) arg3 fullShare x3 ∗ owns (c : Thread nD τ) arg4 fullShare (k1_pay7 x1 x2 x3) ∗ owns (c : Thread nD τ) arg7 fullShare (k1_pay5 x1 x2 x3 xm) ∗ owns (c : Thread nD τ) arg8 fullShare (k1_pay6 x1 x2 x3 xm xs)) -∗ K ⟨⟩))
      ⊢ wp frame (wpE (defs₀ (F := F)) 𝒱₀ c none) E (cc1__logits_kernel i arg1 harg1 arg2 harg2 arg3 harg3 arg4 harg4 arg5 harg5 arg6 harg6 arg7 harg7 arg8 harg8) K := by
  simp only [cc1__logits_kernel_eq_skeleton]; unfold cc1__logits_kernel_skel
  unfold owns
  iintro ⟨⟨%f1, %hf1, H1⟩, ⟨%f2, %hf2, H2⟩, ⟨%f3, %hf3, H3⟩, ⟨%d4, %f4, -, H4⟩, ⟨%f7, %hf7, H7⟩, ⟨%f8, %hf8, H8⟩, Hk⟩
  obtain rfl := harg1.eq_unread hf1; obtain rfl := harg2.eq_unread hf2; obtain rfl := harg3.eq_unread hf3; obtain rfl := harg7.eq_unread hf7; obtain rfl := harg8.eq_unread hf8
  have e1 : View.readAt (Elt F) arg1.view (Rect.unit (s := S2048x1024) ![0, 0] ![2048, 1024] inb_S2048x1024_S2048x1024_0_0).toLoadRect (harg1.unread x1) = x1 := (View.readAt_full _ _ _).trans hf1
  have e2 : View.readAt (Elt F) arg2.view (Rect.unit (s := S1280x1024) ![0, 0] ![1280, 1024] inb_S1280x1024_S1280x1024_0_0).toLoadRect (harg2.unread x2) = x2 := (View.readAt_full _ _ _).trans hf2
  have e3 : View.readAt (Elt F) arg3.view (Rect.unit (s := S1x1280) ![0, 0] ![1, 1280] inb_S1x1280_S1x1280_0_0).toLoadRect (harg3.unread x3) = x3 := (View.readAt_full _ _ _).trans hf3
  have e7 : View.readAt (Elt F) arg7.view (Rect.unit (s := S2048x1) ![0, 0] ![2048, 1] inb_S2048x1_S2048x1_0_0).toLoadRect (harg7.unread xm) = xm := (View.readAt_full _ _ _).trans hf7
  have e8 : View.readAt (Elt F) arg8.view (Rect.unit (s := S2048x1) ![0, 0] ![2048, 1] inb_S2048x1_S2048x1_0_0).toLoadRect (harg8.unread xs) = xs := (View.readAt_full _ _ _).trans hf8
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro; refine (View.read_writes_full _ _ _ _ _).trans ?_; simp only [e1, e2, e3, e7, e8]
  isplitl [H7]
  · iexists _; isplitr; swap; · iexact H7
    ipureintro; refine (View.read_writes_full _ _ _ _ _).trans ?_; simp only [e1, e2, e3, e7, e8]
  · iexists _; isplitr; swap; · iexact H8
    ipureintro; refine (View.read_writes_full _ _ _ _ _).trans ?_; simp only [e1, e2, e3, e7, e8]

set_option maxHeartbeats 1000000 in
/-- The last point: the block's rows past the end are masked, and the running maximum and sum go out. -/
theorem run_last (c : Dev nD) (i : grid1.Coords) (h1 : ¬ cond1 i = 1#1) (h2 : ¬ k1_cond2 i = 1#1) (h3 : k1_cond3 i = 1#1)
    (arg1 : Memref sig .tc .vmem S2048x1024 .f32) (harg1 : arg1.IsWhole) (arg2 : Memref sig .tc .vmem S1280x1024 .f32) (harg2 : arg2.IsWhole) (arg3 : Memref sig .tc .vmem S1x1280 .f32) (harg3 : arg3.IsWhole) (arg4 : Memref sig .tc .vmem S2048x1280 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x1 .f32) (harg8 : arg8.IsWhole)
    (x1 : Vec F S2048x1024 .f32) (x2 : Vec F S1280x1024 .f32) (x3 : Vec F S1x1280 .f32) (xm xs : Vec F S2048x1 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xm ∗ owns (c : Thread nD τ) arg8 fullShare xs
        ∗ (iprop(owns (c : Thread nD τ) arg1 fullShare x1 ∗ owns (c : Thread nD τ) arg2 fullShare x2 ∗ owns (c : Thread nD τ) arg3 fullShare x3 ∗ owns (c : Thread nD τ) arg4 fullShare (k1_pay13 (BitVec.ofNat 32 (i 0).val) (k1_pay3 x1 x2 x3)) ∗ owns (c : Thread nD τ) arg5 fullShare (k1_pay14 (BitVec.ofNat 32 (i 0).val) (k1_pay3 x1 x2 x3) xm) ∗ owns (c : Thread nD τ) arg6 fullShare (k1_pay15 (BitVec.ofNat 32 (i 0).val) (k1_pay3 x1 x2 x3) xm xs) ∗ owns (c : Thread nD τ) arg7 fullShare (k1_pay11 (BitVec.ofNat 32 (i 0).val) (k1_pay3 x1 x2 x3) xm) ∗ owns (c : Thread nD τ) arg8 fullShare (k1_pay12 (BitVec.ofNat 32 (i 0).val) (k1_pay3 x1 x2 x3) xm xs)) -∗ K ⟨⟩))
      ⊢ wp frame (wpE (defs₀ (F := F)) 𝒱₀ c none) E (cc1__logits_kernel i arg1 harg1 arg2 harg2 arg3 harg3 arg4 harg4 arg5 harg5 arg6 harg6 arg7 harg7 arg8 harg8) K := by
  simp only [cc1__logits_kernel_eq_skeleton]; unfold cc1__logits_kernel_skel; simp only [k1_part1_eq_skeleton]; unfold k1_part1_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
  obtain rfl := harg1.eq_unread hf1; obtain rfl := harg2.eq_unread hf2; obtain rfl := harg3.eq_unread hf3; obtain rfl := harg7.eq_unread hf7; obtain rfl := harg8.eq_unread hf8
  have e1 : View.readAt (Elt F) arg1.view (Rect.unit (s := S2048x1024) ![0, 0] ![2048, 1024] inb_S2048x1024_S2048x1024_0_0).toLoadRect (harg1.unread x1) = x1 := (View.readAt_full _ _ _).trans hf1
  have e2 : View.readAt (Elt F) arg2.view (Rect.unit (s := S1280x1024) ![0, 0] ![1280, 1024] inb_S1280x1024_S1280x1024_0_0).toLoadRect (harg2.unread x2) = x2 := (View.readAt_full _ _ _).trans hf2
  have e3 : View.readAt (Elt F) arg3.view (Rect.unit (s := S1x1280) ![0, 0] ![1, 1280] inb_S1x1280_S1x1280_0_0).toLoadRect (harg3.unread x3) = x3 := (View.readAt_full _ _ _).trans hf3
  have e7 : View.readAt (Elt F) arg7.view (Rect.unit (s := S2048x1) ![0, 0] ![2048, 1] inb_S2048x1_S2048x1_0_0).toLoadRect (harg7.unread xm) = xm := (View.readAt_full _ _ _).trans hf7
  have e8 : View.readAt (Elt F) arg8.view (Rect.unit (s := S2048x1) ![0, 0] ![2048, 1] inb_S2048x1_S2048x1_0_0).toLoadRect (harg8.unread xs) = xs := (View.readAt_full _ _ _).trans hf8
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro; refine (View.read_writes_full _ _ _ _ _).trans ?_; simp only [e1, e2, e3, e7, e8]
  isplitl [H5]
  · iexists _; isplitr; swap; · iexact H5
    ipureintro; refine (View.read_writes_full _ _ _ _ _).trans ?_; simp only [e1, e2, e3, e7, e8]
  isplitl [H6]
  · iexists _; isplitr; swap; · iexact H6
    ipureintro; refine (View.read_writes_full _ _ _ _ _).trans ?_; simp only [e1, e2, e3, e7, e8]
  isplitl [H7]
  · iexists _; isplitr; swap; · iexact H7
    ipureintro; refine (View.read_writes_full _ _ _ _ _).trans ?_; simp only [e1, e2, e3, e7, e8]
  · iexists _; isplitr; swap; · iexact H8
    ipureintro; refine (View.read_writes_full _ _ _ _ _).trans ?_; simp only [e1, e2, e3, e7, e8]

end Cert.KernelIdeal.K1

end
-- ==== Proof.KernelIdeal.K1Frame.lean ====
/- The logits call's proof data: what each window holds after each point, the invariant that carries the running
   maximum and sum, and the body obligation. The last block of the weight matrix overhangs the array, so what the
   last point writes is stated up to the unspecified rows of that block. -/
module

public import proofs.«01_k».proof.Proof.KernelIdeal.K1Run
public import Idealize.ShloMosaic.Lib.Pipeline.DatRel

@[expose] public section

noncomputable section

namespace Cert.KernelIdeal.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)

variable {F : FTy → Type} [FloatOps F] [Named F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-! ## The grid's conditions -/

/-- The first condition holds at the first point only. -/
theorem cond1_iff : ∀ t : Fin grid1.N, cond1 (grid1.coords t) = 1#1 ↔ t.val = 0 := by decide
/-- The second holds at every point but the last. -/
theorem cond2_iff : ∀ t : Fin grid1.N, k1_cond2 (grid1.coords t) = 1#1 ↔ t.val < 39 := by decide
/-- The third holds at the last point only. -/
theorem cond3_iff : ∀ t : Fin grid1.N, k1_cond3 (grid1.coords t) = 1#1 ↔ t.val = 39 := by decide
/-- No block of the weight matrix but the last is cut. -/
theorem clip1_none : ∀ t : Fin grid1.N, t.val < 39 → ∀ a, win1_1.clip (grid1.coords t) a = none := by decide

/-! ## The windows' blocks -/

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden states. -/
abbrev hid (c : Dev nD) (t : Fin cfg1.N) : Vec F S2048x1024 .f32 := iblk V c 0 t
/-- The bias block. -/
abbrev bias (c : Dev nD) (t : Fin cfg1.N) : Vec F S1x1280 .f32 := iblk V c 2 t
/-- The weight block, with `d` on the rows outside the matrix. -/
def wblk (c : Dev nD) (t : Fin cfg1.N) (d : Vec F S1280x1024 .f32) : Vec F S1280x1024 .f32 :=
  (cfg1.win 1).fill (cfg1.grid.coords t) d (iblk V c 1 t)
/-- The weight block, with an arbitrary value on the rows outside the matrix. -/
def wblk0 (c : Dev nD) (t : Fin cfg1.N) : Vec F S1280x1024 .f32 := wblk V c t fun _ => (Elt.nonempty F .f32).some

/-- An uncut weight block has no row outside the matrix. -/
theorem wblk_eq (c : Dev nD) (t : Fin cfg1.N) (ht : t.val < 39) (d : Vec F S1280x1024 .f32) : wblk V c t d = wblk0 V c t := by
  funext j
  have hm : (cfg1.win 1).moved (cfg1.grid.coords t) j = true :=
    ((cfg1.win 1).moved_iff _ j).mpr fun a => by
      have := (j a).isLt; unfold Pipeline.Window.xsize; rw [show (cfg1.win 1).clip (cfg1.grid.coords t) a = none from clip1_none t ht a]; exact this
  unfold wblk0 wblk Pipeline.Window.fill; rw [dif_pos hm, dif_pos hm]

/-! ## The running maximum and sum -/

/-- The running maximum and sum once the first `n` blocks are in. -/
def fold (c : Dev nD) : ℕ → Vec F S2048x1 .f32 × Vec F S2048x1 .f32
  | 0 => (k1_pay1, k1_pay2)
  | n + 1 => if h : n < cfg1.N then
      (k1_pay5 (hid V c ⟨n, h⟩) (wblk0 V c ⟨n, h⟩) (bias V c ⟨n, h⟩) (fold c n).1,
        k1_pay6 (hid V c ⟨n, h⟩) (wblk0 V c ⟨n, h⟩) (bias V c ⟨n, h⟩) (fold c n).1 (fold c n).2)
    else fold c n

theorem fold_succ (c : Dev nD) (t : Fin cfg1.N) :
    fold V c (t.val + 1) = (k1_pay5 (hid V c t) (wblk0 V c t) (bias V c t) (fold V c t.val).1,
        k1_pay6 (hid V c t) (wblk0 V c t) (bias V c t) (fold V c t.val).1 (fold V c t.val).2) := by
  rw [fold]; rw [dif_pos t.isLt]

/-- The grid index as the body reads it. -/
abbrev kidx (t : Fin cfg1.N) : BitVec 32 := BitVec.ofNat 32 (grid1.coords t 0).val
/-- The logits of a block. -/
abbrev logits (c : Dev nD) (t : Fin cfg1.N) (d : Vec F S1280x1024 .f32) : FVec F S2048x1280 .f32 := k1_pay3 (hid V c t) (wblk V c t d) (bias V c t)

/-- The logits' window after point `t`. -/
def Lg (c : Dev nD) (t : Fin cfg1.N) (X : Vec F S2048x1280 .bf16) : Prop :=
  (t.val < 39 → X = k1_pay7 (hid V c t) (wblk0 V c t) (bias V c t)) ∧ (t.val = 39 → ∃ d, X = k1_pay13 (kidx t) (logits V c t d))
/-- The maximum's window after the last point. -/
def Mx (c : Dev nD) (t : Fin cfg1.N) (X : Vec F S2048x128 .f32) : Prop :=
  t.val = 39 → ∃ d, X = k1_pay14 (kidx t) (logits V c t d) (fold V c t.val).1
/-- The sum's window after the last point. -/
def Sm (c : Dev nD) (t : Fin cfg1.N) (X : Vec F S2048x128 .f32) : Prop :=
  t.val = 39 → ∃ d, X = k1_pay15 (kidx t) (logits V c t d) (fold V c t.val).1 (fold V c t.val).2

/-- What each window that is held to a predicate meets after point `t`. -/
def Rl (c : Dev nD) : (w : Fin cfg1.W) → Fin cfg1.N → ((cfg1.win w).block.Idx → Elt F (cfg1.win w).elt) → Prop
  | ⟨0, _⟩ => fun _ _ => True
  | ⟨1, _⟩ => fun _ _ => True
  | ⟨2, _⟩ => fun _ _ => True
  | ⟨3, _⟩ => Lg V c
  | ⟨4, _⟩ => Mx V c
  | ⟨5, _⟩ => Sm V c

/-- The windows held to a predicate: the weights', whose last block is cut, and the outputs'. -/
def fgt : Fin cfg1.W → Bool
  | ⟨0, _⟩ => false
  | ⟨1, _⟩ => true
  | ⟨2, _⟩ => false
  | ⟨3, _⟩ => true
  | ⟨4, _⟩ => true
  | ⟨5, _⟩ => true

/-! ## The proof data -/

/-- The invariant before point `t`: the scratch holds the running maximum and sum of the blocks before it. -/
def Φ (c : Dev nD) (n : ℕ) : sProp 𝕄 :=
  iprop((∃ xm xs, ⌜1 ≤ n → n < 40 → (xm = (fold V c n).1 ∧ xs = (fold V c n).2)⌝
      ∗ owns (c : Thread nD τ) (Memref.whole cc1_scratch0 : Memref sig .tc .vmem S2048x1 .f32) fullShare xm
      ∗ owns (c : Thread nD τ) (Memref.whole cc1_scratch1 : Memref sig .tc .vmem S2048x1 .f32) fullShare xs)
    ∗ Pipeline.scopedRestBut (Ix := Ix) (Name := ℕ) (U := U) (Lvl := Lvl) (Val := Elt F) spec1 c [cc1_scratch0, cc1_scratch1]
    ∗ ∃ r, prngReg c r)

/-- The proof data on core `c`. -/
def dat (c : Dev nD) : Dat τ (Elt F) Ix ℕ U Lvl cfg1 c where
  A w := V c (Pipeline.arrRef spec1 w)
  after w t := match w with
    | ⟨0, _⟩ => iblk V c 0 t
    | ⟨1, _⟩ => wblk0 V c t
    | ⟨2, _⟩ => iblk V c 2 t
    | ⟨3, _⟩ => fun _ => (Elt.nonempty F _).some
    | ⟨4, _⟩ => fun _ => (Elt.nonempty F _).some
    | ⟨5, _⟩ => fun _ => (Elt.nonempty F _).some
  Φ t := Φ (F := F) (Ix := Ix) (U := U) (Lvl := Lvl) V c t.val
  q _ := fullShare
  owed _ := D c

variable (ι : Ix)

local notation "𝕕" => dat (Ix := Ix) (U := U) (Lvl := Lvl) V D

theorem A_eq (c : Dev nD) (w : Fin cfg1.W) : (𝕕 c).A w = V c (Pipeline.arrRef spec1 w) := by
  dsimp only [dat]
theorem after_0 (c : Dev nD) (t : Fin cfg1.N) : (𝕕 c).after 0 t = iblk V c 0 t := by dsimp only [dat]
theorem after_2 (c : Dev nD) (t : Fin cfg1.N) : (𝕕 c).after 2 t = iblk V c 2 t := by dsimp only [dat]

/-- The hidden states' buffer holds them at every point. -/
theorem before_0 (c : Dev nD) (t : Fin cfg1.N) (d) : (𝕕 c).before 0 t d = iblk V c 0 t :=
  ((𝕕 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- The bias's buffer holds its block at every point. -/
theorem before_2 (c : Dev nD) (t : Fin cfg1.N) (d) : (𝕕 c).before 2 t d = iblk V c 2 t :=
  ((𝕕 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- The weights' buffer holds its block at every point, anything on the rows outside the matrix. -/
theorem finds_1 (c : Dev nD) (t : Fin cfg1.N) (Y) (h : ((𝕕 c).toRRel fgt (Rl V c)).Finds 1 t Y) : ∃ d, Y = wblk V c t d := by
  obtain ⟨d, rfl⟩ := (((𝕕 c).toRRel fgt (Rl V c)).finds_of_fetch (fetch1_1 t) Y).mp h
  exact ⟨d, rfl⟩

/-! ## The body obligation -/

abbrev ms0 (t : Fin cfg1.N) : Memref sig .tc .vmem S2048x1024 .f32 := win1_0.stage (cfg1.slots t 0)
abbrev ms1 (t : Fin cfg1.N) : Memref sig .tc .vmem S1280x1024 .f32 := win1_1.stage (cfg1.slots t 1)
abbrev ms2 (t : Fin cfg1.N) : Memref sig .tc .vmem S1x1280 .f32 := win1_2.stage (cfg1.slots t 2)
abbrev ms3 (t : Fin cfg1.N) : Memref sig .tc .vmem S2048x1280 .bf16 := win1_3.stage (cfg1.slots t 3)
abbrev ms4 (t : Fin cfg1.N) : Memref sig .tc .vmem S2048x128 .f32 := win1_4.stage (cfg1.slots t 4)
abbrev ms5 (t : Fin cfg1.N) : Memref sig .tc .vmem S2048x128 .f32 := win1_5.stage (cfg1.slots t 5)

/-- What the body is called with at point `t`. -/
def bodyPre (c : Dev nD) (t : Fin cfg1.N) : sProp 𝕄 :=
  iprop((𝕕 c).Φ t.castSucc ∗ (𝕕 c).owesAt ι t.castSucc
    ∗ (∃ d, owns (c : Thread nD τ) (ms0 t) fullShare ((𝕕 c).before 0 t d))
    ∗ (∃ Y, ⌜((𝕕 c).toRRel fgt (Rl V c)).Finds 1 t Y⌝ ∗ owns (c : Thread nD τ) (ms1 t) fullShare Y)
    ∗ (∃ d, owns (c : Thread nD τ) (ms2 t) fullShare ((𝕕 c).before 2 t d))
    ∗ (∃ Y, ⌜((𝕕 c).toRRel fgt (Rl V c)).Finds 3 t Y⌝ ∗ owns (c : Thread nD τ) (ms3 t) fullShare Y)
    ∗ (∃ Y, ⌜((𝕕 c).toRRel fgt (Rl V c)).Finds 4 t Y⌝ ∗ owns (c : Thread nD τ) (ms4 t) fullShare Y)
    ∗ (∃ Y, ⌜((𝕕 c).toRRel fgt (Rl V c)).Finds 5 t Y⌝ ∗ owns (c : Thread nD τ) (ms5 t) fullShare Y))

/-- What it returns. -/
def bodyPost (c : Dev nD) (t : Fin cfg1.N) : sProp 𝕄 :=
  iprop((𝕕 c).Φ t.succ ∗ (𝕕 c).owesAt ι t.succ
    ∗ owns (c : Thread nD τ) (ms0 t) fullShare ((𝕕 c).after 0 t)
    ∗ (∃ X, ⌜Rl V c 1 t X⌝ ∗ owns (c : Thread nD τ) (ms1 t) fullShare X)
    ∗ owns (c : Thread nD τ) (ms2 t) fullShare ((𝕕 c).after 2 t)
    ∗ (∃ X, ⌜Rl V c 3 t X⌝ ∗ owns (c : Thread nD τ) (ms3 t) fullShare X)
    ∗ (∃ X, ⌜Rl V c 4 t X⌝ ∗ owns (c : Thread nD τ) (ms4 t) fullShare X)
    ∗ (∃ X, ⌜Rl V c 5 t X⌝ ∗ owns (c : Thread nD τ) (ms5 t) fullShare X))

set_option maxHeartbeats 1000000 in
/-- The body at any point. -/
theorem sound_body (c : Dev nD) (t : Fin cfg1.N) :
    bodyPre (U := U) (Lvl := Lvl) V D ι c t ⊢ wp frame (wpE (defs₀ (F := F)) 𝒱₀ c none) Set.univ (bodyAt1 t) (fun _ => bodyPost (U := U) (Lvl := Lvl) V D ι c t) := by
  have hN : t.val < 40 := t.isLt.trans_eq N_1
  unfold bodyPre bodyPost bodyAt1
  simp only [before_0, before_2]
  rw [show (𝕕 c).Φ t.castSucc = Φ V c t.val from rfl, show (𝕕 c).Φ t.succ = Φ V c (t.val + 1) from rfl,
    show (𝕕 c).owesAt ι t.succ = (𝕕 c).owesAt ι t.castSucc from rfl, after_0, after_2]
  unfold Φ
  iintro ⟨⟨⟨%xm, %xs, %hx, Hm, Hs⟩, Hr⟩, Ho, ⟨%d0, H0⟩, ⟨%Y1, %h1, H1⟩, ⟨%d2, H2⟩, ⟨%Y3, -, H3⟩, ⟨%Y4, -, H4⟩, ⟨%Y5, -, H5⟩⟩
  obtain ⟨d, rfl⟩ := finds_1 V D c t Y1 h1
  by_cases hl : t.val < 39
  · rw [wblk_eq V c t hl]
    by_cases hz : t.val = 0
    · iapply (run_first 𝒱₀ c (grid1.coords t) ((cond1_iff t).mpr hz) ((cond2_iff t).mpr hl) (fun h => absurd ((cond3_iff t).mp h) (by omega))
        _ _ _ _ _ _ _ _ _ _ _ _ _ _ _ _ (hid V c t) (wblk0 V c t) (bias V c t) Set.univ _)
      isplitl [H0]; · iexact H0
      isplitl [H1]; · iexact H1
      isplitl [H2]; · iexact H2
      isplitl [H3]; · iexists _; iexact H3
      isplitl [Hm]; · iexists _; iexact Hm
      isplitl [Hs]; · iexists _; iexact Hs
      iintro ⟨H0, H1, H2, H3, Hm, Hs⟩
      isplitl [Hm Hs Hr]
      · isplitl [Hm Hs]
        · iexists _, _; isplitr; swap
          · isplitl [Hm]; · iexact Hm
            iexact Hs
          ipureintro; intro _ _; rw [fold_succ, hz]; exact ⟨rfl, rfl⟩
        iexact Hr
      isplitl [Ho]; · iexact Ho
      isplitl [H0]; · iexact H0
      isplitl [H1]; · iexists _; isplitr; swap; · iexact H1
                      ipureintro; trivial
      isplitl [H2]; · iexact H2
      isplitl [H3]; · iexists _; isplitr; swap; · iexact H3
                      ipureintro; exact ⟨fun _ => rfl, fun h => absurd h (by omega)⟩
      isplitl [H4]; · iexists _; isplitr; swap; · iexact H4
                      ipureintro; exact fun h => absurd h (by omega)
      iexists _; isplitr; swap; · iexact H5
      ipureintro; exact fun h => absurd h (by omega)
    · obtain ⟨rfl, rfl⟩ := hx (by omega) hN
      iapply (run_mid 𝒱₀ c (grid1.coords t) (fun h => hz ((cond1_iff t).mp h)) ((cond2_iff t).mpr hl) (fun h => absurd ((cond3_iff t).mp h) (by omega))
        _ _ _ _ _ _ _ _ _ _ _ _ _ _ _ _ (hid V c t) (wblk0 V c t) (bias V c t) (fold V c t.val).1 (fold V c t.val).2 Set.univ _)
      isplitl [H0]; · iexact H0
      isplitl [H1]; · iexact H1
      isplitl [H2]; · iexact H2
      isplitl [H3]; · iexists _; iexact H3
      isplitl [Hm]; · iexact Hm
      isplitl [Hs]; · iexact Hs
      iintro ⟨H0, H1, H2, H3, Hm, Hs⟩
      isplitl [Hm Hs Hr]
      · isplitl [Hm Hs]
        · iexists _, _; isplitr; swap
          · isplitl [Hm]; · iexact Hm
            iexact Hs
          ipureintro; intro _ _; rw [fold_succ]; exact ⟨rfl, rfl⟩
        iexact Hr
      isplitl [Ho]; · iexact Ho
      isplitl [H0]; · iexact H0
      isplitl [H1]; · iexists _; isplitr; swap; · iexact H1
                      ipureintro; trivial
      isplitl [H2]; · iexact H2
      isplitl [H3]; · iexists _; isplitr; swap; · iexact H3
                      ipureintro; exact ⟨fun _ => rfl, fun h => absurd h (by omega)⟩
      isplitl [H4]; · iexists _; isplitr; swap; · iexact H4
                      ipureintro; exact fun h => absurd h (by omega)
      iexists _; isplitr; swap; · iexact H5
      ipureintro; exact fun h => absurd h (by omega)
  · have h39 : t.val = 39 := by omega
    obtain ⟨rfl, rfl⟩ := hx (by omega) hN
    iapply (run_last 𝒱₀ c (grid1.coords t) (fun h => absurd ((cond1_iff t).mp h) (by omega)) (fun h => hl ((cond2_iff t).mp h)) ((cond3_iff t).mpr h39)
      _ _ _ _ _ _ _ _ _ _ _ _ _ _ _ _ (hid V c t) (wblk V c t d) (bias V c t) (fold V c t.val).1 (fold V c t.val).2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [Hm]; · iexact Hm
    isplitl [Hs]; · iexact Hs
    iintro ⟨H0, H1, H2, H3, H4, H5, Hm, Hs⟩
    isplitl [Hm Hs Hr]
    · isplitl [Hm Hs]
      · iexists _, _; isplitr; swap
        · isplitl [Hm]; · iexact Hm
          iexact Hs
        ipureintro; intro _ h; omega
      iexact Hr
    isplitl [Ho]; · iexact Ho
    isplitl [H0]; · iexact H0
    isplitl [H1]; · iexists _; isplitr; swap; · iexact H1
                    ipureintro; trivial
    isplitl [H2]; · iexact H2
    isplitl [H3]; · iexists _; isplitr; swap; · iexact H3
                    ipureintro; exact ⟨fun h => absurd h hl, fun _ => ⟨d, rfl⟩⟩
    isplitl [H4]; · iexists _; isplitr; swap; · iexact H4
                    ipureintro; exact fun _ => ⟨d, rfl⟩
    iexists _; isplitr; swap; · iexact H5
    ipureintro; exact fun _ => ⟨d, rfl⟩

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation with the marked windows held to `Rl`. -/
theorem body_obligation (c : Dev nD) : BodyObligationRel (𝕕 c) (defs₀ (F := F)) 𝒱₀ ι Set.univ fgt (Rl V c) := fun t => by
  rw [bigSep_W1, bigSep_W1, defs₀_row]
  exact triple_restated (sound_body (U := U) (Lvl := Lvl) 𝒱₀ V D ι c t) rfl .rfl fun _ => .rfl

end Cert.KernelIdeal.K1

end
-- ==== Proof.KernelIdeal.Run.lean ====
/- The launch: the three calls one after the other, each run from its record. The logits call leaves its outputs at some
   contents that meet what its body was shown to leave, so the finalize call is entered from those. -/
module

public import proofs.«01_k».proof.Proof.KernelIdeal.K1Frame
public import proofs.«01_k».proof.Proof.Gen.Own.KernelIdeal.RegionsD
public import Idealize.ShloMosaic.Lib.Pipeline.RegionArraysF
public import Idealize.ShloMosaic.Lib.Pipeline.ArrRel

@[expose] public section

noncomputable section

namespace Cert.KernelIdeal.Launch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Seg HostSeg RegionSeg)

variable {F : FTy → Type} [FloatOps F] [Named F]

/-- Two copies of the rounds library's algebra: one funds the launch theorem, the other the three calls. -/
abbrev UU : Type := UR sig nD τ × UR sig nD τ

local notation "𝕄" => MT nD τ sig Unit (Elt F) ℕ UU ℕ

/-- The launch theorem's copy, -/
abbrev EP : Emb (UR sig nD τ) (MT nD τ sig Unit (Elt F) ℕ UU ℕ) := embL
/-- and the calls'. -/
abbrev EQ : Emb (UR sig nD τ) (MT nD τ sig Unit (Elt F) ℕ UU ℕ) := embR

abbrev 𝒱₀ : Variants := Variants.none
/-- The TensorCores' cells carry the one wait index, -/
def L (g : GSem nD τ sig) : Finset Unit := if g.1.2 = .tc then {()} else ∅
/-- at level zero. -/
def lv (_ : GSem nD τ sig) (_ : Unit) : ℕ := 0
/-- No call owes anything. -/
abbrev D : Dev nD → CellTallies nD τ sig Unit := fun _ => 0

/-- The level facts every call needs. -/
theorem cut (p : Fin 3) : Pipeline.LevelCut (pcfgs (F := F)) adm () L lv p D (fun _ => 0) where
  hι c w s := by unfold L; rw [if_pos rfl]; exact Finset.mem_singleton_self _
  hιb c w s := le_rfl
  hD c g i h := absurd h (lt_irrefl _)

variable (m : (ℓ : Loc nD τ sig) → Buf (Elt F) ℓ) (ρ : Dev nD → PrngReg)

/-! ## What the calls leave -/

/-- What the logits call leaves in each window's array, for each core. -/
abbrev Arrs : Type := (c : Dev nD) → (w : Fin cfg1.W) → Buf (Elt F) ((cfg1.win w).arr.view.loc (c : Thread nD τ))

/-- The launch contents. -/
abbrev base (r : Ref sig .tc) (c : Dev nD) : Buf (Elt F) ((c : Thread nD τ).loc r) := m ((c : Thread nD τ).loc r)

/-- The gate-and-copy call's data. -/
abbrev dat0 (c : Dev nD) : Dat τ (Elt F) Unit ℕ UU ℕ cfg0 c := Own.K0.dat 𝒱₀ (Own.Ve0 m) D c

/-- What the first two calls leave, the logits call's outputs given by `A`. -/
def outs1 (A : Arrs (F := F)) : Outs (F := F)
  | 2 => Function.update (Function.update (base m) main_v10_0 fun c => (dat0 m c).arrAt 5 cfg0.N) main_v10_1 fun c => (dat0 m c).arrAt 6 cfg0.N
  | 3 => Function.update (Function.update (Function.update (base m) main_v11_0 fun c => A c 3) main_v11_1 fun c => A c 4) main_v11_2 fun c => A c 5
  | _ => base m

/-- The finalize call's data. -/
abbrev dat2 (A : Arrs (F := F)) (c : Dev nD) : Dat τ (Elt F) Unit ℕ UU ℕ cfg2 c := Own.K2.dat 𝒱₀ (Own.Ve2 m (outs1 m A)) D c

/-- What all three leave. -/
def outs2 (A : Arrs (F := F)) : Outs (F := F)
  | 4 => Function.update (base m) main_v12 fun c => (dat2 m A c).arrAt 5 cfg2.N
  | n => outs1 m A n

theorem outs1_v10_0 (A : Arrs (F := F)) : outs1 m A 2 main_v10_0 = fun c => (dat0 m c).arrAt 5 cfg0.N := by
  simp only [outs1, Function.update_of_ne (by decide : (main_v10_0 : Ref sig .tc) ≠ main_v10_1), Function.update_self]
theorem outs1_v10_1 (A : Arrs (F := F)) : outs1 m A 2 main_v10_1 = fun c => (dat0 m c).arrAt 6 cfg0.N := by
  simp only [outs1, Function.update_self]
theorem outs1_v11_0 (A : Arrs (F := F)) : outs1 m A 3 main_v11_0 = fun c => A c 3 := by
  simp only [outs1, Function.update_of_ne (by decide : (main_v11_0 : Ref sig .tc) ≠ main_v11_1), Function.update_of_ne (by decide : (main_v11_0 : Ref sig .tc) ≠ main_v11_2), Function.update_self]
theorem outs1_v11_1 (A : Arrs (F := F)) : outs1 m A 3 main_v11_1 = fun c => A c 4 := by
  simp only [outs1, Function.update_of_ne (by decide : (main_v11_1 : Ref sig .tc) ≠ main_v11_2), Function.update_self]
theorem outs1_v11_2 (A : Arrs (F := F)) : outs1 m A 3 main_v11_2 = fun c => A c 5 := by
  simp only [outs1, Function.update_self]
theorem outs2_v12 (A : Arrs (F := F)) : outs2 m A 4 main_v12 = fun c => (dat2 m A c).arrAt 5 cfg2.N := by
  simp only [outs2, Function.update_self]
/-- The buffers when the logits call is entered: nothing of its outputs enters. -/
abbrev W2 (c : Dev nD) : Valuation τ sig (Elt F) := V2 m (outs1 m fun c w => base m (Pipeline.arrRef spec1 w) c) c
theorem V2_outs1 (A : Arrs (F := F)) (c : Dev nD) : V2 m (outs1 m A) c = W2 m c := rfl
theorem V3_outs2 (A : Arrs (F := F)) (c : Dev nD) : V3 m (outs2 m A) c = V3 m (outs1 m A) c := rfl

/-- The logits call's entry contents. -/
abbrev Ve1 (c : Dev nD) (b : Ref sig .tc) : Buf (Elt F) ((c : Thread nD τ).loc b) := W2 m c (Proc.devRef .tc b)

/-- The logits call's data. -/
abbrev dat1 (c : Dev nD) : Dat τ (Elt F) Unit ℕ UU ℕ cfg1 c := K1.dat (Ve1 m) D c
/-- The same with what its body leaves stated by predicates. -/
abbrev rdat1 (c : Dev nD) : RDat τ (Elt F) Unit ℕ UU ℕ cfg1 c := (dat1 m c).toRRel K1.fgt (K1.Rl (Ve1 m) c)

/-- The data of all three calls, the finalize call's at any entry contents. -/
def fam : (p : Fin 3) → (c : Dev nD) → Dat τ (Elt F) Unit ℕ UU ℕ (cfgs p) c
  | ⟨0, _⟩ => fun c => dat0 m c
  | ⟨1, _⟩ => fun c => dat1 m c
  | ⟨2, _⟩ => fun c => Own.K2.dat 𝒱₀ (Ve1 m) D c
/-- The same, the logits call's by predicates. -/
def rfam : (p : Fin 3) → (c : Dev nD) → RDat τ (Elt F) Unit ℕ UU ℕ (cfgs p) c
  | ⟨1, _⟩ => fun c => rdat1 m c
  | p => fun c => (fam m p c).toR

/-- `A₀` on core `c`, the launch contents elsewhere. -/
def onCore (c : Dev nD) (A₀ : (w : Fin cfg1.W) → Buf (Elt F) ((cfg1.win w).arr.view.loc (c : Thread nD τ))) : Arrs (F := F) :=
  Function.update (fun c w => base m (Pipeline.arrRef spec1 w) c) c A₀
theorem onCore_self (c : Dev nD) (A₀ : (w : Fin cfg1.W) → Buf (Elt F) ((cfg1.win w).arr.view.loc (c : Thread nD τ))) : onCore m c A₀ c = A₀ :=
  Function.update_self ..

/-- An input's array is as the call found it. -/
theorem arrAt_in (c : Dev nD) (w : Fin cfg1.W) (hw : (cfg1.win w).isOut = false) {n : ℕ} {G : Buf (Elt F) ((cfg1.win w).arr.view.loc (c : Thread nD τ))}
    (hG : (rdat1 m c).ArrAt w n G) : G = Ve1 m c (Pipeline.arrRef spec1 w) := by
  obtain ⟨X, -, hA⟩ := hG.exists_exact
  exact (hA (Function.update (fun _ _ _ => Classical.arbitrary _) w X) fun u _ _ => by rw [Function.update_self]).trans (Dat.arrAt_in _ w hw _)

/-- The buffers after the logits call, at the windows' arrays. -/
theorem V3_arr (c : Dev nD) (A : Arrs (F := F)) (hA : ∀ w, (rdat1 m c).ArrAt w cfg1.N (A c w)) :
    ∀ w, A c w = V3 m (outs1 m A) c (Proc.devRef .tc (Pipeline.arrRef spec1 w))
  | ⟨0, _⟩ => (arrAt_in m c 0 rfl (hA 0)).trans (V3_of m (outs1 m A) c (Pipeline.arrRef spec1 0) (by decide)).symm
  | ⟨1, _⟩ => (arrAt_in m c 1 rfl (hA 1)).trans (V3_of m (outs1 m A) c (Pipeline.arrRef spec1 1) (by decide)).symm
  | ⟨2, _⟩ => (arrAt_in m c 2 rfl (hA 2)).trans (V3_of m (outs1 m A) c (Pipeline.arrRef spec1 2) (by decide)).symm
  | ⟨3, _⟩ => (congrFun (outs1_v11_0 m A) c).symm.trans (by
      show _ = V3 m (outs1 m A) c (Proc.devRef .tc main_v11_0)
      simp only [V3, Function.update_of_ne (StableHlo.devRef_ne_of_ne (by decide : (main_v11_0 : Ref sig .tc) ≠ main_v11_1)), Function.update_of_ne (StableHlo.devRef_ne_of_ne (by decide : (main_v11_0 : Ref sig .tc) ≠ main_v11_2)), Function.update_self])
  | ⟨4, _⟩ => (congrFun (outs1_v11_1 m A) c).symm.trans (by
      show _ = V3 m (outs1 m A) c (Proc.devRef .tc main_v11_1)
      simp only [V3, Function.update_of_ne (StableHlo.devRef_ne_of_ne (by decide : (main_v11_1 : Ref sig .tc) ≠ main_v11_2)), Function.update_self])
  | ⟨5, _⟩ => (congrFun (outs1_v11_2 m A) c).symm.trans (by
      show _ = V3 m (outs1 m A) c (Proc.devRef .tc main_v11_2)
      simp only [V3, Function.update_self])

theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
theorem arr1_S : Pipeline.arrRefs (τ := τ) spec1 ⊆ Pipeline.ucRefs τ sig :=
  Pipeline.arrRefs_sub_ucRefs spec1 (by decide)
/-- The logits call changes its windows' arrays alone. -/
theorem rest1_eq (A : Arrs (F := F)) (c : Dev nD) : ∀ b ∈ (Pipeline.ucRefs τ sig) \ Pipeline.arrRefs (τ := τ) spec1, V3 m (outs1 m A) c b = W2 m c b := fun b hb => by
  have hn : b ∉ Pipeline.arrRefs (τ := τ) spec1 := (Finset.mem_sdiff.mp hb).2
  have h0 : b ≠ Proc.devRef .tc main_v11_0 := by rintro rfl; exact hn (arr1_mem 3)
  have h1 : b ≠ Proc.devRef .tc main_v11_1 := by rintro rfl; exact hn (arr1_mem 4)
  have h2 : b ≠ Proc.devRef .tc main_v11_2 := by rintro rfl; exact hn (arr1_mem 5)
  simp only [V3, Function.update_of_ne h0, Function.update_of_ne h1, Function.update_of_ne h2]; rfl

/-! ## The logits call's record -/

/-- A call's scratch as the boundary has it makes its invariant before the first point, -/
theorem hin1 (c : Dev nD) : iprop(Pipeline.scopedRest (Ix := Unit) (Name := ℕ) (U := UU) (Lvl := ℕ) (Val := Elt F) spec1 c ∗ (∃ r, prngReg c r)) ⊢ (dat1 m c).Φ 0 := by
  rw [show (dat1 m c).Φ 0 = K1.Φ (Ve1 m) c 0 from rfl, scopedRest1_split]
  unfold K1.Φ
  iintro ⟨⟨⟨⟨%f, Hf⟩, ⟨%g, Hg⟩⟩, Hr⟩, Hp⟩
  isplitl [Hf Hg]
  · iexists f, g
    isplitr; · ipureintro; exact fun h => absurd h (by omega)
    rw [owns_whole, owns_whole]
    isplitl [Hf]; · iexact Hf
    iexact Hg
  isplitl [Hr]; · iexact Hr
  iexact Hp

/-- and after the last gives it back. -/
theorem hout1 (c : Dev nD) : (dat1 m c).Φ (Fin.last cfg1.N) ⊢ iprop(Pipeline.scopedRest (Ix := Unit) (Name := ℕ) (U := UU) (Lvl := ℕ) (Val := Elt F) spec1 c ∗ (∃ r, prngReg c r)) := by
  rw [show (dat1 m c).Φ (Fin.last cfg1.N) = K1.Φ (Ve1 m) c cfg1.N from rfl, scopedRest1_split]
  unfold K1.Φ
  simp only [owns_whole]
  iintro ⟨⟨%f, %g, -, Hf, Hg⟩, Hr, Hp⟩
  isplitl [Hf Hg Hr]
  · isplitl [Hf Hg]
    · isplitl [Hf]
      · iexists f; iexact Hf
      iexists g; iexact Hg
    iexact Hr
  iexact Hp

-- a library definition stated over `pin pcs a p` unifies with the pinned configuration only when unification may unfold plain
-- definitions in a metavariable's type
set_option backward.isDefEq.respectTransparency.types false in
/-- The logits call: entered from the buffers the first call left; left with its windows' arrays at some contents that its
    data allow, every other buffer as it was. -/
def R1 : RDat.RegionSeg (pcfgs (F := F)) adm (rfam m) () defs₀ 𝒱₀ L lv 1 where
  win := (launch1.toP (Val := Elt F)).to₀.win
  block_pos := (launch1.toP (Val := Elt F)).to₀.block_pos
  stage_whole := (launch1.toP (Val := Elt F)).to₀.stage_whole
  K := PEmpty
  osem k := k.elim
  ho := Pipeline.OwnSemFacts.none _
  hbody c := (K1.body_obligation 𝒱₀ (Ve1 m) D () c).toRRel
  hwaits c := Pipeline.RDat.cellsWaits_of_cut (Pipeline.pin (pcfgs (F := F)) adm) (rfam m) () 1 c 0 (D c) (fun _ => rfl) ((cut (F := F) 1).hι c) ((cut (F := F) 1).hιb c) ((cut (F := F) 1).hD c)
  pre c := iprop(StableHlo.held (c : Thread nD τ) (Pipeline.ucRefs τ sig) (W2 m c) ∗ (∃ r, prngReg c r) ∗ ∃ Wd, owes (c : Thread nD τ) (D c) Wd)
  post c := iprop(∃ A : Arrs (F := F), ⌜∀ w, (rdat1 m c).ArrAt w cfg1.N (A c w)⌝
    ∗ StableHlo.held (c : Thread nD τ) (Pipeline.ucRefs τ sig) (V3 m (outs1 m A) c) ∗ (∃ r, prngReg c r) ∗ ∃ Wd, owes (c : Thread nD τ) (D c) Wd)
  X c := iprop(∃ r, prngReg c r)
  Y c := iprop(∃ r, prngReg c r)
  Z c := StableHlo.held (c : Thread nD τ) ((Pipeline.ucRefs τ sig) \ Pipeline.arrRefs (τ := τ) spec1) (W2 m c)
  hentry c := by
    show _ ⊢ |={Set.univ}=> iprop((fam m 1 c).arrays ((fam m 1 c).arrAt · 0) ∗ Pipeline.prefHeld (pcfgs (F := F) 1).pre c (fun _ => fullShare) (adm 1).1
        ∗ (fam m 1 c).owesAt () 0 ∗ _ ∗ _)
    rw [Pipeline.ownSems0_none, Pipeline.prefHeld_of_none _ rfl,
      Pipeline.arrays_held (pcfgs (F := F)) adm (fam m) 1 (launch1.toP (Val := Elt F)) c ((fam m 1 c).share_full fun _ => rfl) ((fam m 1 c).arrAt · 0) (W2 m c) (fun _ => rfl),
      StableHlo.held_sub_split (c : Thread nD τ) arr1_S (W2 m c)]
    iintro ⟨⟨⟨Ha, Hr⟩, Hp, HO⟩, -, -⟩
    imodintro
    isplitl [Ha]; · iexact Ha
    isplitr; · iempintro
    isplitl [HO]
    · unfold Dat.owesAt Pipeline.owesWithin Dat.bound
      icases HO with ⟨%Wd, HO⟩; iexists Wd; isplitr; · ipureintro; exact fun _ _ => Or.inl trivial
      iexact HO
    isplitl [Hp]; · iexact Hp
    iexact Hr
  hin c := (show _ ⊢ iprop(Pipeline.scopedRest (Ix := Unit) (Name := ℕ) (U := UU) (Lvl := ℕ) (Val := Elt F) spec1 c ∗ (∃ r, prngReg c r)) from by
    iintro ⟨Hp, -, Hr⟩
    isplitl [Hr]; · iexact Hr
    iexact Hp).trans (hin1 m c)
  hout c := (hout1 m c).trans (by
    rw [Pipeline.ownSems0_none]
    iintro ⟨Hr, Hp⟩
    isplitl [Hp]; · iexact Hp
    isplitr; · iempintro
    iexact Hr)
  hexit c := by
    show iprop((rdat1 m c).arraysAt cfg1.N ∗ (fam m 1 c).owesAt () (Fin.last cfg1.N) ∗ _ ∗ _) ⊢ _
    have ha : ((rdat1 m c).arraysAt cfg1.N : sProp 𝕄) ⊢ iprop(∃ A : (w : Fin cfg1.W) → Buf (Elt F) ((cfg1.win w).arr.view.loc (c : Thread nD τ)),
        ⌜∀ w, (rdat1 m c).ArrAt w cfg1.N (A w)⌝ ∗ (fam m 1 c).arrays A) := by
      unfold RDat.arraysAt Dat.arrays
      refine (BI.bigSep_exists_pi Finset.univ _).trans ?_
      iintro ⟨%A, H⟩
      ihave H' := (BI.bigSep_pure_sep Finset.univ (fun w => (rdat1 m c).ArrAt w cfg1.N (A w)) _) $$ H
      icases H' with ⟨%hA, H⟩
      iexists A
      isplitr; · ipureintro; exact fun w => hA w (Finset.mem_univ w)
      iexact H
    iintro ⟨Ha, HO, Hp, Hr⟩
    ihave Ha := ha $$ Ha
    icases Ha with ⟨%A₀, %hA₀, Ha⟩
    have hA : ∀ w, (rdat1 m c).ArrAt w cfg1.N (onCore m c A₀ c w) := by rw [onCore_self]; exact hA₀
    have e : ((fam m 1 c).arrays A₀ : sProp 𝕄) = StableHlo.held (c : Thread nD τ) (Pipeline.arrRefs (τ := τ) spec1) (V3 m (outs1 m (onCore m c A₀)) c) :=
      Pipeline.arrays_held (pcfgs (F := F)) adm (fam m) 1 (launch1.toP (Val := Elt F)) c ((fam m 1 c).share_full fun _ => rfl) A₀ (V3 m (outs1 m (onCore m c A₀)) c)
        (fun w => (congrFun (onCore_self m c A₀) w).symm.trans (V3_arr m c (onCore m c A₀) hA w))
    ihave Ha := (Entails.of_eq e) $$ Ha
    imodintro
    iexists (onCore m c A₀)
    isplitr; · ipureintro; exact hA
    rw [StableHlo.held_sub_split (c : Thread nD τ) arr1_S (V3 m (outs1 m (onCore m c A₀)) c),
      StableHlo.held_congr (c : Thread nD τ) (S := (Pipeline.ucRefs τ sig) \ Pipeline.arrRefs (τ := τ) spec1) (rest1_eq m (onCore m c A₀) c)]
    isplitl [Ha Hr]; · isplitl [Ha] <;> iassumption
    isplitl [Hp]; · iexact Hp
    unfold Dat.owesAt Pipeline.owesWithin
    icases HO with ⟨%Wd, -, HO⟩; iexists Wd; iexact HO

/-! ## The calls as host segments

The launch theorem takes one list of regions, each entered from one named state. The logits call's exit state is not one named
state, so each call enters the list as a fragment of @main with its own account, its staging cells' state funded from the second
copy of the algebra. -/

/-- A pipeline's staging cells as the launch deals them. -/
abbrev toks (p : Fin 3) (c : Dev nD) : sProp 𝕄 :=
  iprop(Pipeline.cellsGhost (Pipeline.pin (pcfgs (F := F)) adm) EQ p c ∗ Pipeline.toksInit (Pipeline.pin (pcfgs (F := F)) adm) EQ p c)

/-- What rides beside the buffers. -/
abbrev Er (c : Dev nD) : sProp 𝕄 := iprop((∃ r, prngReg c r) ∗ ∃ W, owes (c : Thread nD τ) (D c) W)

/-- The state before each item but the third: the buffers, what rides beside them, the cells not used yet. -/
def E : Fin 4 → Dev nD → sProp 𝕄
  | ⟨0, _⟩ => fun c => iprop(Er c ∗ toks 0 c ∗ toks 1 c ∗ toks 2 c)
  | ⟨1, _⟩ => fun c => iprop(Er c ∗ toks 1 c ∗ toks 2 c)
  | ⟨2, _⟩ => fun c => iprop(Er c ∗ toks 2 c)
  | ⟨3, _⟩ => fun c => Er c

/-- A call run from a record's `pre`, with its cells' state and `Fr` beside it. -/
theorem call_wp {p : Fin 3} {rd : (p : Fin 3) → (c : Dev nD) → RDat τ (Elt F) Unit ℕ UU ℕ (cfgs p) c}
    (R : RDat.RegionSeg (pcfgs (F := F)) adm rd () defs₀ 𝒱₀ L lv p) (c : Dev nD) (P Q Fr : sProp 𝕄)
    (hpre : P ⊢ iprop(R.pre c ∗ toks p c ∗ Fr)) (hpost : iprop(R.post c ∗ Fr) ⊢ Q)
    {β : Type} (k : PUnit → Prog (TpuEff nD τ sig (Elt F) (Pipeline.Sig Λ₀ (Fin 3) fun p => (pcfgs (F := F) p).Adm) .tc) β) (K : β → sProp 𝕄) :
    iprop((iprop(boundary (c : Thread nD τ) ∗ Q) -∗ wp frame (wpE (Pipeline.defs (pcfgs (F := F)) defs₀) (Variants.lift 𝒱₀) (c : Thread nD τ) none) Set.univ (k ⟨⟩) K)
        ∗ boundary (c : Thread nD τ) ∗ P ∗ levAts L lv)
      ⊢ wp frame (wpE (Pipeline.defs (pcfgs (F := F)) defs₀) (Variants.lift 𝒱₀) (c : Thread nD τ) none) Set.univ
          (Prog.lift (.customCall (Pipeline.entry p) ()) >>= k) K := by
  refine BIBase.Entails.trans ?_ (Pipeline.RDat.RegionSeg.wp (pcfgs (F := F)) adm rd () cellOf_inj EQ defs₀ 𝒱₀ L lv R c none (fun u h => nomatch h) k K)
  iintro ⟨Hk, Hb, HP, Hl⟩
  ihave H := hpre $$ HP
  icases H with ⟨Hpre, ⟨Hg, Ht⟩, HF⟩
  isplitl [Hk HF]
  · iintro ⟨Hb, Hpost⟩
    iapply Hk
    isplitl [Hb]; · iexact Hb
    iapply hpost
    isplitl [Hpost]; · iexact Hpost
    iexact HF
  isplitl [Hb]; · iexact Hb
  isplitl [Hpre]; · iexact Hpre
  isplitl [Hl]; · iexact Hl
  isplitl [Hg]; · iexact Hg
  iexact Ht

/-- The first call's record, its outputs' contents what its data leave. -/
abbrev R0 (A : Arrs (F := F)) := Own.R0D m (outs2 m A) 𝒱₀ L lv () (fam m) D D (fun _ => 0) (cut 0) (fun c => iprop(toks 1 c ∗ toks 2 c))
  (fun c => congrFun (outs1_v10_0 m A) c) (fun c => congrFun (outs1_v10_1 m A) c)
/-- The third call's. -/
abbrev R2 (A : Arrs (F := F)) := Own.R2D m (outs2 m A) 𝒱₀ L lv () (fam m) D D (fun _ => 0) (cut 2) (fun _ => iprop(emp))
  (fun c => congrFun (outs2_v12 m A) c)

/-- The launch contents as the logits call's outputs: a placeholder where nothing reads them. -/
abbrev A₀ : Arrs (F := F) := fun c w => base m (Pipeline.arrRef spec1 w) c

/-- The state before the third call. -/
def T2 (c : Dev nD) : sProp 𝕄 := iprop(∃ A : Arrs (F := F), ⌜∀ w, (rdat1 m c).ArrAt w cfg1.N (A c w)⌝
    ∗ StableHlo.held (c : Thread nD τ) (Pipeline.ucRefs τ sig) (V3 m (outs1 m A) c) ∗ E 2 c)
/-- The state after it. -/
def T3 (c : Dev nD) : sProp 𝕄 := iprop(∃ A : Arrs (F := F), ⌜∀ w, (rdat1 m c).ArrAt w cfg1.N (A c w)⌝
    ∗ StableHlo.held (c : Thread nD τ) (Pipeline.ucRefs τ sig) (V4 m (outs2 m A) c))

set_option backward.isDefEq.respectTransparency.types false in
/-- The first call. -/
def H0 : HostSeg (Ix := Unit) (Name := ℕ) (U := UU) (Lvl := ℕ) (pcfgs (F := F)) defs₀ 𝒱₀ L lv where
  prog := Prog.lift (.customCall (Pipeline.entry 0) ())
  pre c := iprop(StableHlo.held (c : Thread nD τ) (Pipeline.ucRefs τ sig) (V1 m c) ∗ E 0 c)
  post c := iprop(StableHlo.held (c : Thread nD τ) (Pipeline.ucRefs τ sig) (W2 m c) ∗ E 1 c)
  run c β k K := call_wp ((R0 m (A₀ m)).toR (pcfgs (F := F)) adm _ () defs₀ 𝒱₀ L lv) c _ _ iprop(emp)
    (show iprop(StableHlo.held (c : Thread nD τ) (Pipeline.ucRefs τ sig) (V1 m c) ∗ E 0 c) ⊢ iprop((R0 m (A₀ m)).pre c ∗ toks 0 c ∗ emp) from by
      iintro ⟨Hh, HE⟩
      unfold E
      icases HE with ⟨⟨Hp, HO⟩, H0, H1, H2⟩
      isplitr [H0]
      · iapply (Own.hpre0D m (outs2 m (A₀ m)) 𝒱₀ L lv () (fam m) D D (fun _ => 0) (cut 0) (fun _ c => iprop(Er c ∗ toks 1 c ∗ toks 2 c)) (fun c => iprop(toks 1 c ∗ toks 2 c))
          (fun c => (show iprop(Er c ∗ toks 1 c ∗ toks 2 c) ⊢ iprop((∃ r, prngReg c r) ∗ (∃ W, owes (c : Thread nD τ) (D c) W) ∗ toks 1 c ∗ toks 2 c) from by
            iintro ⟨⟨Hp, HO⟩, H1, H2⟩
            isplitl [Hp]; · iexact Hp
            isplitl [HO]; · iexact HO
            isplitl [H1] <;> iassumption)) _ _ c)
        isplitl [Hh]; · iexact Hh
        isplitl [Hp HO]; · isplitl [Hp] <;> iassumption
        isplitl [H1] <;> iassumption
      isplitl [H0]; · iexact H0
      iempintro)
    (show iprop((R0 m (A₀ m)).post c ∗ emp) ⊢ iprop(StableHlo.held (c : Thread nD τ) (Pipeline.ucRefs τ sig) (W2 m c) ∗ E 1 c) from by
      iintro ⟨H, -⟩
      iapply (Own.hpost0D m (outs2 m (A₀ m)) 𝒱₀ L lv () (fam m) D D (fun _ => 0) (cut 0) E (fun c => iprop(toks 1 c ∗ toks 2 c))
          (fun c => (show iprop((∃ r, prngReg c r) ∗ (∃ W, owes (c : Thread nD τ) (D c) W) ∗ toks 1 c ∗ toks 2 c) ⊢ iprop(Er c ∗ toks 1 c ∗ toks 2 c) from by
            iintro ⟨Hp, HO, H1, H2⟩
            isplitl [Hp HO]; · isplitl [Hp] <;> iassumption
            isplitl [H1] <;> iassumption)) _ _ c)
      iexact H) k K

set_option backward.isDefEq.respectTransparency.types false in
/-- The second. -/
def H1 : HostSeg (Ix := Unit) (Name := ℕ) (U := UU) (Lvl := ℕ) (pcfgs (F := F)) defs₀ 𝒱₀ L lv where
  prog := Prog.lift (.customCall (Pipeline.entry 1) ())
  pre c := iprop(StableHlo.held (c : Thread nD τ) (Pipeline.ucRefs τ sig) (W2 m c) ∗ E 1 c)
  post c := T2 m c
  run c β k K := call_wp (R1 m) c _ _ (toks 2 c)
    (show iprop(StableHlo.held (c : Thread nD τ) (Pipeline.ucRefs τ sig) (W2 m c) ∗ E 1 c)
        ⊢ iprop((StableHlo.held (c : Thread nD τ) (Pipeline.ucRefs τ sig) (W2 m c) ∗ Er c) ∗ toks 1 c ∗ toks 2 c) from by
      unfold E
      iintro ⟨Hh, HE, H1, H2⟩
      isplitl [Hh HE]; · isplitl [Hh] <;> iassumption
      isplitl [H1] <;> iassumption)
    (show iprop((∃ A : Arrs (F := F), ⌜∀ w, (rdat1 m c).ArrAt w cfg1.N (A c w)⌝
        ∗ StableHlo.held (c : Thread nD τ) (Pipeline.ucRefs τ sig) (V3 m (outs1 m A) c) ∗ Er c) ∗ toks 2 c) ⊢ T2 m c from by
      unfold T2 E
      iintro ⟨⟨%A, %hA, Hh, HE⟩, H2⟩
      iexists A
      isplitr; · ipureintro; exact hA
      isplitl [Hh]; · iexact Hh
      isplitl [HE] <;> iassumption) k K

set_option backward.isDefEq.respectTransparency.types false in
/-- The third, from whatever the second left. -/
theorem run2 (c : Dev nD) (A : Arrs (F := F))
    {β : Type} (k : PUnit → Prog (TpuEff nD τ sig (Elt F) (Pipeline.Sig Λ₀ (Fin 3) fun p => (pcfgs (F := F) p).Adm) .tc) β) (K : β → sProp 𝕄) :
    iprop((iprop(boundary (c : Thread nD τ) ∗ StableHlo.held (c : Thread nD τ) (Pipeline.ucRefs τ sig) (V4 m (outs2 m A) c) ∗ E 3 c)
          -∗ wp frame (wpE (Pipeline.defs (pcfgs (F := F)) defs₀) (Variants.lift 𝒱₀) (c : Thread nD τ) none) Set.univ (k ⟨⟩) K)
        ∗ boundary (c : Thread nD τ) ∗ iprop(StableHlo.held (c : Thread nD τ) (Pipeline.ucRefs τ sig) (V3 m (outs1 m A) c) ∗ E 2 c) ∗ levAts L lv)
      ⊢ wp frame (wpE (Pipeline.defs (pcfgs (F := F)) defs₀) (Variants.lift 𝒱₀) (c : Thread nD τ) none) Set.univ
          (Prog.lift (.customCall (Pipeline.entry 2) ()) >>= k) K :=
  call_wp ((R2 m A).toR (pcfgs (F := F)) adm _ () defs₀ 𝒱₀ L lv) c _ _ iprop(emp)
    (show iprop(StableHlo.held (c : Thread nD τ) (Pipeline.ucRefs τ sig) (V3 m (outs1 m A) c) ∗ E 2 c) ⊢ iprop((R2 m A).pre c ∗ toks 2 c ∗ emp) from by
      iintro ⟨Hh, HE⟩
      unfold E
      icases HE with ⟨⟨Hp, HO⟩, H2⟩
      isplitr [H2]
      · iapply (Own.hpre2D m (outs2 m A) 𝒱₀ L lv () (fam m) D D (fun _ => 0) (cut 2) (fun _ c => Er c) (fun _ => iprop(emp))
          (fun c => (show Er c ⊢ iprop((∃ r, prngReg c r) ∗ (∃ W, owes (c : Thread nD τ) (D c) W) ∗ emp) from by
            iintro ⟨Hp, HO⟩
            isplitl [Hp]; · iexact Hp
            isplitl [HO]; · iexact HO
            iempintro)) _ c)
        isplitl [Hh]; · iexact Hh
        isplitl [Hp] <;> iassumption
      isplitl [H2]; · iexact H2
      iempintro)
    (show iprop((R2 m A).post c ∗ emp) ⊢ iprop(StableHlo.held (c : Thread nD τ) (Pipeline.ucRefs τ sig) (V4 m (outs2 m A) c) ∗ E 3 c) from by
      iintro ⟨H, -⟩
      iapply (Own.hpost2D m (outs2 m A) 𝒱₀ L lv () (fam m) D D (fun _ => 0) (cut 2) E (fun _ => iprop(emp))
          (fun c => (show iprop((∃ r, prngReg c r) ∗ (∃ W, owes (c : Thread nD τ) (D c) W) ∗ emp) ⊢ Er c from by
            iintro ⟨Hp, HO, -⟩
            isplitl [Hp] <;> iassumption)) _ c)
      iexact H) k K

/-- The third call. -/
def H2 : HostSeg (Ix := Unit) (Name := ℕ) (U := UU) (Lvl := ℕ) (pcfgs (F := F)) defs₀ 𝒱₀ L lv where
  prog := Prog.lift (.customCall (Pipeline.entry 2) ())
  pre c := T2 m c
  post c := iprop(T3 m c ∗ E 3 c)
  run c β k K := by
    unfold T2 T3
    iintro ⟨Hk, Hb, ⟨%A, %hA, Hh, HE⟩, Hl⟩
    iapply (run2 m c A k K)
    isplitl [Hk]
    · iintro ⟨Hb, Hh, HE⟩
      iapply Hk
      isplitl [Hb]; · iexact Hb
      isplitl [Hh]
      · iexists A
        isplitr; · ipureintro; exact hA
        iexact Hh
      iexact HE
    isplitl [Hb]; · iexact Hb
    isplitl [Hh HE]; · isplitl [Hh] <;> iassumption
    iexact Hl

/-- @main's items. -/
abbrev items (_ : Dev nD) : List (Seg (pcfgs (F := F)) adm (fam m) () defs₀ 𝒱₀ L lv) :=
  [.host (seg0 m 𝒱₀ L lv E), .host (H0 m), .host (H1 m), .host (H2 m)]

/-! ## The launch -/

/-- The launch element: both copies deal the staging cells. -/
def u₀ : UU := (initOf (Pipeline.cells cfgs cellOf_inj) (Pipeline.launchToks cfgs cellOf_inj), initOf (Pipeline.cells cfgs cellOf_inj) (Pipeline.launchToks cfgs cellOf_inj))

/-- A core's share of the second copy. -/
abbrev G (c : Dev nD) : sProp 𝕄 := iprop(toks 0 c ∗ toks 1 c ∗ toks 2 c)

set_option backward.isDefEq.respectTransparency.types false in
/-- The launch element gives the launch theorem its copy and each core its share of the other. -/
theorem hu₀ : (ownU u₀ : sProp 𝕄) ⊢ |={Set.univ}=> iprop(BI.own (EP (initOf (Pipeline.cells cfgs cellOf_inj) (Pipeline.launchToks cfgs cellOf_inj))) ∗ bigSep Finset.univ G) := by
  have hsplit : iprop((bigSep Finset.univ fun c : Dev nD => bigSep Finset.univ fun p => Pipeline.cellsGhost (Pipeline.pin (pcfgs (F := F)) adm) EQ p c)
        ∗ (bigSep Finset.univ fun c : Dev nD => bigSep Finset.univ fun p => (Pipeline.toksInit (Pipeline.pin (pcfgs (F := F)) adm) EQ p c : sProp 𝕄)))
      ⊢ bigSep Finset.univ G := by
    rw [← bigSep_sep']
    refine bigSep_mono fun c _ => ?_
    rw [← bigSep_sep', Ring.bigSep_fin3]
    exact BI.Entails.refl _
  unfold u₀
  iintro Hu
  ihave H := (ownU_pair _ _) $$ Hu
  icases H with ⟨HP, HQ⟩
  imod (Pipeline.fund_ghost (Pipeline.pin (pcfgs (F := F)) adm) EQ cellOf_inj) $$ HQ with ⟨Hg, Ht⟩
  imodintro
  isplitl [HP]; · iexact HP
  iapply hsplit
  isplitl [Hg] <;> iassumption

/-- What every final state has: the arguments as launched; the result what the third call leaves, entered from some contents that
    the second call's data allow. -/
def Post (c : Dev nD) (s : MemSt nD τ sig (Elt F)) : Prop :=
  (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7))
    ∧ ∃ A : Arrs (F := F), (∀ w, (rdat1 m c).ArrAt w cfg1.N (A c w)) ∧ s.mem ((c.tc : Thread nD τ).loc main_v12) = (dat2 m A c).arrAt 5 cfg2.N

set_option backward.isDefEq.respectTransparency.types false in
/-- Every weakly fair execution of @main terminates; every final state is as `Post` says, every semaphore at zero. -/
theorem run_main : θ_run defs (onTc (τ := τ) (main (F := F))) ⟨m, fun _ => 0, ρ⟩ (fun r => (∀ c : Dev nD, Post m c r.2) ∧ r.2.sem = fun _ => 0) := by
  refine Pipeline.θ_run_regions_kit_dev_sems (pcfgs (F := F)) adm (fam m) () cellOf_inj EP defs₀ 𝒱₀ L lv m ρ main (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()),
          Prog.lift (.customCall (Pipeline.entry 2) ()) ] from rfl]
      dsimp (config := { failIfUnchanged := false }) only
      exact .rfl)
    (fun c => by simp only [items, Seg.pipes_host, Seg.pipes_nil]; decide) D (fun g hg => by unfold L; rw [if_neg hg]) G u₀ hu₀
    (T₀ := fun c => iprop(StableHlo.held (c : Thread nD τ) (Pipeline.ucRefs τ sig) (V0 m c) ∗ E 0 c))
    (Tₙ := T3 m)
    (hch := fun c => ⟨.rfl, .rfl, .rfl, .rfl, ?_⟩)
    (hinit := ?_) (QY := Post m)
    (hfin := fun c s' => ?_) (hQ := fun _ h hz => ⟨h, funext fun g => hz g (.inr (regions_no_unscoped g.2))⟩)
  · show iprop(T3 m c ∗ E 3 c) ⊢ _
    unfold E
    iintro ⟨H, -, HO⟩
    isplitl [H]; · iexact H
    iexact HO
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    unfold E
    iintro ⟨⟨Hh, -, HO, -, Hp, HG⟩, -⟩
    imodintro
    isplitl [Hh]; · iexact Hh
    isplitl [Hp HO]
    · isplitl [Hp]; · iexists _; iexact Hp
      iexists _; iexact HO
    iexact HG
  · unfold T3 StableHlo.held
    iintro ⟨⟨%A, %hA, Hh⟩, HSI⟩
    ihave Hr := (pointsTo_read_all (Pipeline.ucRefs τ sig) (fun b => ((c : Thread nD τ).1, b)) (V4 m (outs2 m A) c) s') $$ [Hh HSI]
    · isplitl [Hh] <;> iassumption
    icases Hr with ⟨%h, HSI⟩
    imodintro
    isplitr
    · ipureintro
      have hr : ∀ r : Ref sig .tc, (Proc.devRef .tc r : DevRef τ sig).isScoped = false → s'.mem.mem ((c.tc : Thread nD τ).loc r) = V4 m (outs2 m A) c (Proc.devRef .tc r) :=
        fun r hr => h (Proc.devRef .tc r) (Finset.mem_filter.mpr ⟨StableHlo.devRef_mem_tcRefs r, by rw [hr]; decide⟩)
      exact ⟨⟨(hr main_arg0 rfl).trans (V4_main_arg0 m _ c), (hr main_arg1 rfl).trans (V4_main_arg1 m _ c), (hr main_arg2 rfl).trans (V4_main_arg2 m _ c),
        (hr main_arg3 rfl).trans (V4_main_arg3 m _ c), (hr main_arg4 rfl).trans (V4_main_arg4 m _ c), (hr main_arg5 rfl).trans (V4_main_arg5 m _ c),
        (hr main_arg6 rfl).trans (V4_main_arg6 m _ c), (hr main_arg7 rfl).trans (V4_main_arg7 m _ c)⟩,
        A, hA, (hr main_v12 rfl).trans ((Own.V4_at_main_v12 m _ c).trans (congrFun (outs2_v12 m A) c))⟩
    iexact HSI

end Cert.KernelIdeal.Launch

end
-- ==== Proof.KernelIdeal.Value.Online.lean ====
/-
  A softmax's two row statistics, the maximum and the sum of exponentials, kept while the row is read block by block: a list of extended
  reals `L 0, L 1, …` none of which is `⊤`, cut after `n` entries. `top L n` is the largest of the first `n` entries and `mass L n` the sum of
  `exp (L j - top L n)` over them. Reading `k` more entries changes the pair as the kernel changes it (`top_add`, `mass_add`). Nothing here
  names a program.
-/
module

public import Idealize.ShloMosaic.PureOps.Ideal

@[expose] public section

namespace Cert.KernelIdeal.Online

open Idealize.ShloMosaic

/-- The largest of the first `n` entries, `⊥` of none. -/
noncomputable def top (L : ℕ → EReal) (n : ℕ) : EReal := (Finset.range n).sup L

/-- The sum of the exponentials of the first `n` entries, each taken against their largest. -/
noncomputable def mass (L : ℕ → EReal) (n : ℕ) : EReal := ∑ j ∈ Finset.range n, Ideal.exp (L j - top L n)

/-- An exponential is not negative. -/
theorem exp_nonneg (x : EReal) : 0 ≤ Ideal.exp x := by
  induction x with
  | bot => exact le_refl _
  | top => exact le_top
  | coe r => rw [Ideal.exp_coe]; exact_mod_cast (Real.exp_pos r).le

/-- Moving an exponential from the maximum `M` to a larger maximum `M'`. -/
theorem exp_mul_exp {l M M' : EReal} (h₁ : l ≤ M) (h₂ : M ≤ M') (h₃ : M' ≠ ⊤) :
    Ideal.exp (l - M) * Ideal.exp (M - M') = Ideal.exp (l - M') := by
  induction l with
  | bot => rw [EReal.bot_sub, EReal.bot_sub, Ideal.exp_bot, zero_mul]
  | top => exact absurd (top_le_iff.1 (h₁.trans h₂)) h₃
  | coe l =>
    induction M with
    | bot => exact absurd (le_bot_iff.1 h₁) (EReal.coe_ne_bot l)
    | top => exact absurd (top_le_iff.1 h₂) h₃
    | coe M =>
      induction M' with
      | bot => exact absurd (le_bot_iff.1 h₂) (EReal.coe_ne_bot M)
      | top => exact absurd rfl h₃
      | coe M' =>
        rw [← EReal.coe_sub, ← EReal.coe_sub, ← EReal.coe_sub, Ideal.exp_coe, Ideal.exp_coe, Ideal.exp_coe, ← EReal.coe_mul, ← Real.exp_add]
        congr 2
        ring

/-- A sum of terms that are not negative, times a factor, is the sum of the products. -/
theorem sum_mul {ι : Type} (s : Finset ι) (f : ι → EReal) (hf : ∀ i, 0 ≤ f i) (c : EReal) : (∑ i ∈ s, f i) * c = ∑ i ∈ s, f i * c := by
  classical
  induction s using Finset.induction_on with
  | empty => rw [Finset.sum_empty, Finset.sum_empty, zero_mul]
  | insert a s ha ih =>
    rw [Finset.sum_insert ha, Finset.sum_insert ha, EReal.right_distrib_of_nonneg (hf a) (Finset.sum_nonneg fun i _ => hf i), ih]

variable {L : ℕ → EReal}

/-- Each of the first `n` entries is at most the largest. -/
theorem le_top' {n j : ℕ} (h : j < n) : L j ≤ top L n := Finset.le_sup (f := L) (Finset.mem_range.2 h)

/-- The largest of more entries is at least as large. -/
theorem top_mono {n n' : ℕ} (h : n ≤ n') : top L n ≤ top L n' := Finset.sup_mono (Finset.range_mono h)

/-- The largest entry is not `⊤`, when no entry is. -/
theorem top_ne_top (hL : ∀ j, L j ≠ ⊤) (n : ℕ) : top L n ≠ ⊤ :=
  ((Finset.sup_lt_iff (bot_lt_top)).2 fun j _ => lt_of_le_of_ne le_top (hL j)).ne

/-- The largest of the first `n + k` entries: the larger of that of the first `n` and that of the next `k`. -/
theorem top_add (n k : ℕ) : top L (n + k) = max (top L n) ((Finset.univ : Finset (Fin k)).fold max ⊥ fun i => L (n + i.val)) := by
  show (Finset.range (n + k)).sup L = max ((Finset.range n).sup L) ((Finset.univ : Finset (Fin k)).sup fun i => L (n + i.val))
  refine le_antisymm (Finset.sup_le fun j hj => ?_) (max_le (Finset.sup_mono (Finset.range_mono (Nat.le_add_right n k))) (Finset.sup_le fun i _ => ?_))
  · rcases Nat.lt_or_ge j n with h | h
    · exact le_max_of_le_left (Finset.le_sup (f := L) (Finset.mem_range.2 h))
    · have hk : j - n < k := by have := Finset.mem_range.1 hj; omega
      have e : L j = L (n + (⟨j - n, hk⟩ : Fin k).val) := by congr 1; show j = n + (j - n); omega
      rw [e]
      exact le_max_of_le_right (Finset.le_sup (f := fun i : Fin k => L (n + i.val)) (Finset.mem_univ _))
  · exact Finset.le_sup (f := L) (Finset.mem_range.2 (Nat.add_lt_add_left i.isLt n))

/-- The largest of the first `n` entries as the fold that a reduction makes. -/
theorem fold_eq_top (n : ℕ) (f : Fin n → EReal) (hf : ∀ k : Fin n, f k = L k.val) : (Finset.univ : Finset (Fin n)).fold max ⊥ f = top L n := by
  have h := top_add (L := L) 0 n
  rw [zero_add, show top L 0 = ⊥ from rfl, max_eq_right bot_le] at h
  rw [h]
  exact Finset.fold_congr fun k _ => by rw [hf, zero_add]

/-- The sum over the first `n` entries as the sum that a reduction makes. -/
theorem sum_eq_mass (n : ℕ) (f : Fin n → EReal) (hf : ∀ k : Fin n, f k = Ideal.exp (L k.val - top L n)) : ∑ k : Fin n, f k = mass L n := by
  rw [mass, Finset.sum_range fun i => Ideal.exp (L i - top L n)]
  exact Finset.sum_congr rfl fun k _ => hf k

/-- The sum over the first `n + k` entries: that over the first `n`, moved to the new maximum, and the next `k` terms. -/
theorem mass_add (hL : ∀ j, L j ≠ ⊤) (n k : ℕ) :
    mass L (n + k) = mass L n * Ideal.exp (top L n - top L (n + k)) + ∑ i : Fin k, Ideal.exp (L (n + i.val) - top L (n + k)) := by
  rw [mass, Finset.sum_range_add, mass, sum_mul _ _ fun _ => exp_nonneg _]
  congr 1
  · refine Finset.sum_congr rfl fun j hj => ?_
    exact (exp_mul_exp (le_top' (Finset.mem_range.1 hj)) (top_mono (Nat.le_add_right n k)) (top_ne_top hL _)).symm
  · exact Finset.sum_range fun i => Ideal.exp (L (n + i) - top L (n + k))

/-- Entries that are `⊥` do not change the largest. -/
theorem top_of_bot (n k : ℕ) (h : ∀ j, n ≤ j → L j = ⊥) : top L (n + k) = top L n := by
  rw [top_add, max_eq_left]
  show (Finset.univ : Finset (Fin k)).sup (fun i => L (n + i.val)) ≤ _
  exact Finset.sup_le fun i _ => by rw [h _ (Nat.le_add_right n _)]; exact bot_le

/-- Nor the sum. -/
theorem mass_of_bot (n k : ℕ) (h : ∀ j, n ≤ j → L j = ⊥) : mass L (n + k) = mass L n := by
  rw [mass, top_of_bot n k h, Finset.sum_range_add, mass, Finset.sum_eq_zero (s := Finset.range k), add_zero]
  intro j _
  rw [h _ (Nat.le_add_right n _), EReal.bot_sub, Ideal.exp_bot]

/-- The sum is not zero as soon as one entry is not `⊥`. -/
theorem mass_ne_zero (hL : ∀ j, L j ≠ ⊤) {n j : ℕ} (hj : j < n) (h : L j ≠ ⊥) : mass L n ≠ 0 := by
  have hlt : 0 < Ideal.exp (L j - top L n) := by
    have hM : top L n ≠ ⊤ := top_ne_top hL n
    have hM' : top L n ≠ ⊥ := fun e => h (le_bot_iff.1 (e ▸ le_top' hj))
    have hj' : L j ≠ ⊤ := hL j
    revert hM hM' h hj'
    generalize top L n = M
    generalize L j = l
    intro h hM hM' hj'
    lift M to ℝ using ⟨hM, hM'⟩
    lift l to ℝ using ⟨hj', h⟩
    rw [← EReal.coe_sub, Ideal.exp_coe]
    exact_mod_cast Real.exp_pos _
  exact (hlt.trans_le (Finset.single_le_sum (f := fun j => Ideal.exp (L j - top L n)) (fun i _ => exp_nonneg _) (Finset.mem_range.2 hj))).ne'

/-- A quotient by the sum may be taken of either factor of a product, where the sum is not zero. -/
theorem mul_div_comm {s : EReal} (hs : s ≠ 0) (e q : EReal) : e * Ideal.div q s = Ideal.div e s * q := by
  rw [Ideal.div, if_neg hs, Ideal.div, if_neg hs, mul_comm q, mul_assoc]

end Cert.KernelIdeal.Online
-- ==== Proof.KernelIdeal.Value.Mask.lean ====
/-
  A scatter that writes one value wherever it lands, read at an element; and the two scatters of the program and of the reference, which
  overwrite one entry of a vector of 50000, or one column of a matrix of 50000 columns, at a place that one index word names. Nothing is asked
  of the word: where it names no column, nothing is written.
-/
module

public import Idealize.ShloMosaic.Lib.Routing.OpsOne
public import Idealize.ShloMosaic.Lib.Pointwise
public import proofs.«01_k».proof.Proof.Gen.KernelIdeal.Launch
public import proofs.«01_k».proof.Proof.Gen.ReferenceIdeal.Run

@[expose] public section

noncomputable section

namespace Cert.KernelIdeal.Mask

open Idealize.ShloMosaic Idealize.ShloMosaic.Routing

/-- A scatter all of whose updates are `v`, its body returning the update: `v` where an update lands, the operand elsewhere. -/
theorem scatter_const {α : Type} {s si u : Shape} {w : Nat} (d : ScatterDims s si u) (x0 : s.Idx → α) (idx : IVec si w) (upd : u.Idx → α) (ι : s.Idx)
    (v : α) (hv : ∀ k, upd k = v) (P : Prop) [Decidable P] (hP : (∃ k, d.resultIdx? k idx = some ι) ↔ P) :
    Host.scatter d (fun _ b => b) x0 idx upd ι = if P then v else x0 ι := by
  by_cases h : P
  · obtain ⟨k, hk⟩ := hP.2 h
    rw [if_pos h]
    exact scatter_set_hit d x0 idx upd ι v (fun k _ => hv k) k hk
  · rw [if_neg h]
    exact scatter_set_miss d x0 idx upd ι fun k hk => h (hP.1 ⟨k, hk⟩)

/-- All indices of a vector of one entry are the same. -/
theorem idx_one (i j : (⟨1, ![1]⟩ : Shape).Idx) : i = j := by
  funext a
  match a with
  | ⟨0, _⟩ => exact Subsingleton.elim (α := Fin 1) _ _

/-- The program's scatter into a vector: `v` at the entry that the index word names, the operand elsewhere. -/
theorem scatter_vec {α : Type} (x0 : Cert.KernelIdeal.S50000.Idx → α) (idx : IVec Cert.KernelIdeal.S1 32) (upd : Cert.KernelIdeal.S_.Idx → α) (v : α)
    (hv : ∀ k, upd k = v) (e : Fin 50000) :
    Host.scatter Cert.KernelIdeal.scatter_S50000_S1_S__n_0_0_0 (fun _ b => b) x0 idx upd (ix1 e)
      = if (idx (ix1 (0 : Fin 1))).toInt = (e.val : Int) then v else x0 (ix1 e) := by
  have hs (k) : Cert.KernelIdeal.scatter_S50000_S1_S__n_0_0_0.start k idx 0 = (idx (ix1 (0 : Fin 1))).toInt := by
    unfold ScatterDims.start
    rw [dif_pos (by decide)]
    exact congrArg (fun i => (idx i).toInt) (idx_one _ _)
  have hw (k) : Cert.KernelIdeal.scatter_S50000_S1_S__n_0_0_0.window k 0 = 0 := by
    unfold ScatterDims.window
    rw [dif_neg (by decide)]
  have h (k) : Cert.KernelIdeal.scatter_S50000_S1_S__n_0_0_0.resultIdx? k idx = some (ix1 e) ↔ (idx (ix1 (0 : Fin 1))).toInt = (e.val : Int) := by
    rw [ix1_eq_valueIdx e, resultIdx?_ix1, hs, hw, Nat.cast_zero, add_zero]
  exact scatter_const _ x0 idx upd _ v hv _ ⟨fun ⟨k, hk⟩ => (h k).1 hk, fun q => ⟨ix0, (h _).2 q⟩⟩

/-- The reference's scatter into a matrix: `v` down the column that the index word names, the operand elsewhere. -/
theorem scatter_mat {α : Type} (x0 : Cert.ReferenceIdeal.S2048x50000.Idx → α) (idx : IVec Cert.ReferenceIdeal.S1 32)
    (upd : Cert.ReferenceIdeal.S2048.Idx → α) (v : α) (hv : ∀ k, upd k = v) (r : Fin 2048) (e : Fin 50000) :
    Host.scatter Cert.ReferenceIdeal.scatter_S2048x50000_S1_S2048_0_1_1_0 (fun _ b => b) x0 idx upd (ix2 r e)
      = if (idx (ix1 (0 : Fin 1))).toInt = (e.val : Int) then v else x0 (ix2 r e) := by
  have hs (k) : Cert.ReferenceIdeal.scatter_S2048x50000_S1_S2048_0_1_1_0.start k idx 1 = (idx (ix1 (0 : Fin 1))).toInt := by
    unfold ScatterDims.start
    rw [dif_pos (by decide)]
    exact congrArg (fun i => (idx i).toInt) (idx_one _ _)
  have hs0 (k) : Cert.ReferenceIdeal.scatter_S2048x50000_S1_S2048_0_1_1_0.start k idx 0 = 0 := by
    unfold ScatterDims.start
    rw [dif_neg (by decide)]
  have hw (k) : Cert.ReferenceIdeal.scatter_S2048x50000_S1_S2048_0_1_1_0.window k 1 = 0 := by
    unfold ScatterDims.window
    rw [dif_neg (by decide)]
  have hw0 (k) : Cert.ReferenceIdeal.scatter_S2048x50000_S1_S2048_0_1_1_0.window k 0 = (k 0).val := by
    unfold ScatterDims.window
    rw [dif_pos (by decide)]
    rfl
  have h (k) : Cert.ReferenceIdeal.scatter_S2048x50000_S1_S2048_0_1_1_0.resultIdx? k idx = some (ix2 r e)
      ↔ (k 0).val = r.val ∧ (idx (ix1 (0 : Fin 1))).toInt = (e.val : Int) := by
    rw [ix2_eq_valueIdx r e, resultIdx?_ix2, hs, hw, hs0, hw0, Nat.cast_zero, add_zero, zero_add, Nat.cast_inj]
  exact scatter_const _ x0 idx upd _ v hv _ ⟨fun ⟨k, hk⟩ => ((h k).1 hk).2, fun q => ⟨ix1 r, (h _).2 ⟨rfl, q⟩⟩⟩

end Cert.KernelIdeal.Mask
-- ==== Proof.KernelIdeal.Value.Spec.lean ====
/-
  What both programs compute, on the extended reals, as plain functions of the eight arguments: the masked logits, the copy gate, and the two
  parts of the result.
-/
module

public import proofs.«01_k».proof.Proof.KernelIdeal.Value.Online
public import proofs.«01_k».proof.Proof.KernelIdeal.Value.Mask

@[expose] public section

noncomputable section

namespace Cert.KernelIdeal.Spec

open Idealize.ShloMosaic Cert.KernelIdeal

variable (x0 : S2048x1024.Idx → EReal) (x1 : S2048x512.Idx → EReal) (x2 : S16x512x512.Idx → EReal) (x3 : S50000x1024.Idx → EReal)
  (x4 : S50000.Idx → EReal) (x5 : S1024.Idx → EReal) (x6 : S1.Idx → EReal) (x7 : S_.Idx → BitVec 32)

/-- The word that names the padding column: the argument, 50000 added to it where it is negative. -/
def padWord : BitVec 32 := Scalar.select (IntOp.cmpi .slt (x7 ix0) 0#32) (IntOp.addi (x7 ix0) 50000#32) (x7 ix0)

/-- Column `j`'s bias: `⊥` at the padding column. -/
def bias (j : Fin 50000) : EReal := if (padWord x7).toInt = (j.val : Int) then ⊥ else x4 (ix1 j)

/-- Row `r`'s logit at column `j`: `⊥` from column 50000 on. -/
def logit (r : Fin 2048) (j : ℕ) : EReal :=
  if h : j < 50000 then (∑ k : Fin 1024, x0 (ix2 r k) * x3 (ix2 (⟨j, h⟩ : Fin 50000) k)) + bias x4 x7 ⟨j, h⟩ else ⊥

/-- Row `r`'s copy gate. -/
def gate (r : Fin 2048) : EReal := Ideal.div 1 (1 + Ideal.exp (-((∑ k : Fin 1024, x0 (ix2 r k) * x5 (ix1 k)) + x6 (ix1 (0 : Fin 1)))))

/-- The result's first 50000 columns: the softmax of the logits, scaled by what the gate leaves. -/
def genPart (r : Fin 2048) (j : ℕ) : EReal :=
  Ideal.div (Ideal.exp (logit x0 x3 x4 x7 r j - Online.top (logit x0 x3 x4 x7 r) 50000)) (Online.mass (logit x0 x3 x4 x7 r) 50000)
    * (1 - gate x0 x5 x6 r)

/-- The batch of row `r`. -/
def batch (r : Fin 2048) : Fin 16 := ⟨r.val / 128, by omega⟩

/-- The result's last 512 columns: the gated attention against the batch's map. -/
def copyPart (r : Fin 2048) (j : Fin 512) : EReal := ∑ s : Fin 512, x1 (ix2 r s) * gate x0 x5 x6 r * x2 (ix3 (batch r) s j)

/-- The result. -/
def out (r : Fin 2048) (j : Fin 50512) : EReal :=
  if h : j.val < 50000 then genPart x0 x3 x4 x5 x6 x7 r j.val else copyPart x0 x1 x2 x5 x6 r ⟨j.val - 50000, by omega⟩

end Cert.KernelIdeal.Spec
-- ==== Proof.KernelIdeal.Value.Pay.lean ====
/-
  What the three kernel bodies store, entry by entry, on the extended reals.
-/
module

public import proofs.«01_k».proof.Proof.KernelIdeal.Value.Spec
public import proofs.«01_k».proof.Proof.Gen.KernelIdeal.Skeleton
public import Idealize.ShloMosaic.Lib.Pointwise

@[expose] public section

noncomputable section

namespace Cert.KernelIdeal.Pay

open Idealize.ShloMosaic Cert.KernelIdeal Cert.KernelIdeal.Gen

/-- The word `0xFF800000` is `⊥`. -/
theorem ofBits_bot : Ideal.ofBits .f32 0xFF800000#32 = ⊥ := by
  simp [Ideal.ofBits, Ideal.ieee]

/-- The word `0x3F800000` is one. -/
theorem ofBits_one : Ideal.ofBits .f32 0x3F800000#32 = 1 := by
  simp [Ideal.ofBits, Ideal.ieee, -EReal.coe_mul]; norm_num

/-- A maximum over columns that all hold one value is that value. -/
theorem fold_const {n : ℕ} (hn : 0 < n) (f : Fin n → EReal) (a : EReal) (h : ∀ k, f k = a) :
    (Finset.univ : Finset (Fin n)).fold max ⊥ f = a := by
  refine le_antisymm (Finset.fold_max_le _ |>.2 ⟨bot_le, fun k _ => (h k).le⟩) ?_
  exact (Finset.le_fold_max _).2 (.inr ⟨⟨0, hn⟩, Finset.mem_univ _, (h _).ge⟩)

section K0

variable (v0 : Vec Ideal S128x1024 .f32) (v1 : Vec Ideal S1024x1 .f32) (v4 : Vec Ideal S1x1 .f32) (v12 : Vec Ideal S128x512 .f32)
  (v15 : Vec Ideal S1x512x512 .f32)

/-- A block's copy gate. -/
theorem gate (r : Fin 128) : k0_pay1 (F := Ideal) v0 v1 v4 (ix2 r (0 : Fin 1))
    = Ideal.div 1 (1 + Ideal.exp (-((∑ k : Fin 1024, v0 (ix2 r k) * v1 (ix2 k (0 : Fin 1))) + v4 (ix2 (0 : Fin 1) (0 : Fin 1))))) := by
  unfold k0_pay1
  pointwise
  rfl

/-- The gate's window. -/
theorem pc (r l : Fin 128) : k0_pay2 (F := Ideal) v0 v1 v4 (ix2 r l) = k0_pay1 (F := Ideal) v0 v1 v4 (ix2 r (0 : Fin 1)) := by
  unfold k0_pay2
  generalize k0_pay1 (F := Ideal) v0 v1 v4 = g
  pointwise

/-- The copy window's middle columns: the gated attention against the map. -/
theorem cp_mid (r : Fin 128) (j : Fin 512) (q : Fin 2048) (hq : q.val = 848 + j.val) : k0_pay3 (F := Ideal) v0 v1 v4 v12 v15 (ix2 r q)
    = ∑ s : Fin 512, v12 (ix2 r s) * k0_pay1 (F := Ideal) v0 v1 v4 (ix2 r (0 : Fin 1)) * v15 (ix3 (0 : Fin 1) s j) := by
  unfold k0_pay3
  generalize k0_pay1 (F := Ideal) v0 v1 v4 = g
  have hlt : q.val - 848 < 512 := by omega
  have hle : ¬ q.val < 848 := by omega
  obtain rfl : j = ⟨q.val - 848, hlt⟩ := Fin.ext (by simp only; omega)
  pointwise
  rw [dif_neg hle, dif_pos hlt]

/-- The copy window's other columns are zero. -/
theorem cp_out (r : Fin 128) (q : Fin 2048) (hq : q.val < 848 ∨ 1360 ≤ q.val) : k0_pay3 (F := Ideal) v0 v1 v4 v12 v15 (ix2 r q) = 0 := by
  unfold k0_pay3
  generalize k0_pay1 (F := Ideal) v0 v1 v4 = g
  pointwise
  split
  · rfl
  · rw [dif_neg (by omega)]

end K0

/-- A row's maximum as a kernel body takes it. -/
theorem row_max {n0 n1 : ℕ} (x : FVec Ideal (⟨2, ![n0, n1]⟩ : Shape) .f32) (h : (⟨2, ![n0, n1]⟩ : Shape).Reduces [1] ⟨1, ![n0]⟩)
    (hφ) (hacc) (r : Fin n0) : multiReduction .maximumf [1] ⟨1, ![n0]⟩ x 0xFF800000#32 h hφ hacc (ix1 r)
      = (Finset.univ : Finset (Fin n1)).fold max ⊥ fun k => x (ix2 r k) := by
  rw [multiReduction_maximumf_eq_fold, Shape.Reduces.fold_fiber_r2_a1, ← ofBits_bot]
  rfl

section K1

/-- The starting maximum is `⊥`. -/
theorem start_max (r : Fin 2048) : k1_pay1 (F := Ideal) (ix2 r (0 : Fin 1)) = ⊥ := by
  unfold k1_pay1
  pointwise
  rfl

/-- The starting sum is zero. -/
theorem start_sum (r : Fin 2048) : k1_pay2 (F := Ideal) (ix2 r (0 : Fin 1)) = 0 := by
  unfold k1_pay2
  pointwise

variable (v3 : Vec Ideal S2048x1024 .f32) (v4 : Vec Ideal S1280x1024 .f32) (v6 : Vec Ideal S1x1280 .f32) (x : FVec Ideal S2048x1280 .f32)
  (M Z : Vec Ideal S2048x1 .f32)

/-- A block's logits. -/
theorem logits (r : Fin 2048) (j : Fin 1280) : k1_pay3 (F := Ideal) v3 v4 v6 (ix2 r j)
    = (∑ k : Fin 1024, v3 (ix2 r k) * v4 (ix2 j k)) + v6 (ix2 (0 : Fin 1) j) := by
  unfold k1_pay3
  pointwise

/-- A row's maximum over a block's columns. -/
def rowMax (x : FVec Ideal S2048x1280 .f32) (r : Fin 2048) : EReal := (Finset.univ : Finset (Fin 1280)).fold max ⊥ fun k => x (ix2 r k)

/-- A running maximum after a block. -/
theorem step_max (r : Fin 2048) : k1_pay4 (F := Ideal) v3 v4 v6 M (ix2 r (0 : Fin 1))
    = max (M (ix2 r (0 : Fin 1))) (rowMax (k1_pay3 (F := Ideal) v3 v4 v6) r) := by
  unfold k1_pay4 rowMax
  generalize k1_pay3 (F := Ideal) v3 v4 v6 = y
  rw [← row_max y reduces_S2048x1280_S2048 (.inl rfl) rfl r]
  generalize multiReduction .maximumf [1] S2048 y 0xFF800000#32 reduces_S2048x1280_S2048 (.inl rfl) rfl = w
  pointwise

theorem step_max' (r : Fin 2048) : k1_pay5 (F := Ideal) v3 v4 v6 M (ix2 r (0 : Fin 1)) = k1_pay4 (F := Ideal) v3 v4 v6 M (ix2 r (0 : Fin 1)) := by
  unfold k1_pay5
  generalize k1_pay4 (F := Ideal) v3 v4 v6 M = y
  pointwise

/-- A running sum after a block. -/
theorem step_sum (r : Fin 2048) : k1_pay6 (F := Ideal) v3 v4 v6 M Z (ix2 r (0 : Fin 1))
    = Z (ix2 r (0 : Fin 1)) * Ideal.exp (M (ix2 r (0 : Fin 1)) - k1_pay4 (F := Ideal) v3 v4 v6 M (ix2 r (0 : Fin 1)))
      + ∑ k : Fin 1280, Ideal.exp (k1_pay3 (F := Ideal) v3 v4 v6 (ix2 r k) - k1_pay4 (F := Ideal) v3 v4 v6 M (ix2 r (0 : Fin 1))) := by
  unfold k1_pay6
  generalize k1_pay4 (F := Ideal) v3 v4 v6 M = y
  generalize k1_pay3 (F := Ideal) v3 v4 v6 = z
  pointwise

/-- The logits a block leaves in its window. -/
theorem out_logits (r : Fin 2048) (j : Fin 1280) : k1_pay7 (F := Ideal) v3 v4 v6 (ix2 r j) = k1_pay3 (F := Ideal) v3 v4 v6 (ix2 r j) := by
  unfold k1_pay7
  generalize k1_pay3 (F := Ideal) v3 v4 v6 = z
  pointwise

/-- The last block's comparison of its columns with the vocabulary's size. -/
theorem last_cols : ∀ j : Fin 1280, IntOp.cmpi .sge (IntOp.addi (BitVec.ofNat 32 j.val) (Scalar.muli 39#32 1280#32)) 50000#32
    = if j.val < 80 then 0#1 else 1#1 := by decide +kernel

/-- The last block's mask: `⊥` from column 80 on. -/
theorem masked (r : Fin 2048) (j : Fin 1280) : k1_pay8 (F := Ideal) 39#32 x (ix2 r j) = if j.val < 80 then x (ix2 r j) else ⊥ := by
  unfold k1_pay8
  pointwise
  rw [last_cols]
  split <;> rfl

theorem last_max (a : BitVec 32) (r : Fin 2048) : k1_pay9 (F := Ideal) a x M (ix2 r (0 : Fin 1))
    = max (M (ix2 r (0 : Fin 1))) (rowMax (k1_pay8 (F := Ideal) a x) r) := by
  unfold k1_pay9 rowMax
  generalize k1_pay8 (F := Ideal) a x = y
  rw [← row_max y reduces_S2048x1280_S2048 (.inl rfl) rfl r]
  generalize multiReduction .maximumf [1] S2048 y 0xFF800000#32 reduces_S2048x1280_S2048 (.inl rfl) rfl = w
  pointwise

theorem last_sum (a : BitVec 32) (r : Fin 2048) : k1_pay10 (F := Ideal) a x M Z (ix2 r (0 : Fin 1))
    = Z (ix2 r (0 : Fin 1)) * Ideal.exp (M (ix2 r (0 : Fin 1)) - k1_pay9 (F := Ideal) a x M (ix2 r (0 : Fin 1)))
      + ∑ k : Fin 1280, Ideal.exp (k1_pay8 (F := Ideal) a x (ix2 r k) - k1_pay9 (F := Ideal) a x M (ix2 r (0 : Fin 1))) := by
  unfold k1_pay10
  generalize k1_pay9 (F := Ideal) a x M = y
  generalize k1_pay8 (F := Ideal) a x = z
  pointwise

theorem out_last (a : BitVec 32) (r : Fin 2048) (j : Fin 1280) : k1_pay13 (F := Ideal) a x (ix2 r j) = k1_pay8 (F := Ideal) a x (ix2 r j) := by
  unfold k1_pay13
  generalize k1_pay8 (F := Ideal) a x = z
  pointwise

theorem out_max (a : BitVec 32) (r : Fin 2048) (l : Fin 128) : k1_pay14 (F := Ideal) a x M (ix2 r l) = k1_pay9 (F := Ideal) a x M (ix2 r (0 : Fin 1)) := by
  unfold k1_pay14
  generalize k1_pay9 (F := Ideal) a x M = y
  pointwise

theorem out_sum (a : BitVec 32) (r : Fin 2048) (l : Fin 128) : k1_pay15 (F := Ideal) a x M Z (ix2 r l) = k1_pay10 (F := Ideal) a x M Z (ix2 r (0 : Fin 1)) := by
  unfold k1_pay15
  generalize k1_pay10 (F := Ideal) a x M Z = y
  pointwise

end K1

/-- The last column block is recognised by its number. -/
theorem is_last : ∀ k : Fin 25, Scalar.cmpi .eq (BitVec.ofNat 32 k.val) 24#32 = if k.val = 24 then 1#1 else 0#1 := by decide

/-- The result's block, where the three statistics hold one value along each row: the exponential of the logit below the maximum, times what
    the gate leaves over the sum, and the copied part where the block is the last. -/
theorem result (i : grid2.Coords) (m s pc : Vec Ideal S1024x128 .f32) (lg : Vec Ideal S1024x2048 .bf16) (cp : Vec Ideal S1024x2048 .f32)
    (r : Fin 1024) (q : Fin 2048) (a b c : EReal) (hm : ∀ l : Fin 128, m (ix2 r l) = a) (hs : ∀ l : Fin 128, s (ix2 r l) = b)
    (hp : ∀ l : Fin 128, pc (ix2 r l) = c) : k2_pay1 (F := Ideal) i m s pc lg cp (ix2 r q)
    = Ideal.exp (lg (ix2 r q) - a) * Ideal.div (1 - c) b + cp (ix2 r q) * if (i 1).val = 24 then 1 else 0 := by
  unfold k2_pay1
  pointwise
  rw [ofBits_bot, fold_const (by decide) _ a hm, fold_const (by decide) _ b hs, fold_const (by decide) _ c hp, is_last (i 1)]
  congr 1
  split
  · exact (mul_one _).symm
  · exact (mul_zero _).symm

end Cert.KernelIdeal.Pay
-- ==== Proof.KernelIdeal.Value.HostValues.lean ====
/-
  What the host code before the calls hands them: the bias, `⊥` put at the padding column and zeros past the vocabulary; the gate's weights and
  bias reshaped.
-/
module

public import proofs.«01_k».proof.Proof.KernelIdeal.Run
public import proofs.«01_k».proof.Proof.KernelIdeal.Value.Pay

@[expose] public section

noncomputable section

namespace Cert.KernelIdeal.HostValues

open Idealize.ShloMosaic Idealize.ShloMosaic.TcCoe Cert.KernelIdeal Cert.KernelIdeal.Gen

variable (m : (ℓ : Loc nD τ sig) → Buf (Elt Ideal) ℓ) (c : Dev nD)

theorem v8_eq : V1 m c main_v8 = shapeCast S1024x1 (m ((c : Thread nD τ).loc main_arg5)) shapeCasts_S1024_S1024x1 := by
  unfold V1
  after_results
  rfl

theorem v9_eq : V1 m c main_v9 = shapeCast S1x1 (m ((c : Thread nD τ).loc main_arg6)) shapeCasts_S1_S1x1 := by
  unfold V1
  after_results
  rfl

/-- The bias as the second call reads it: `⊥` scattered into it at the padding column, zeros appended. -/
def biasExt (x4 : S50000.Idx → EReal) (x7 : S_.Idx → BitVec 32) : S1x51200.Idx → EReal :=
  shapeCast S1x51200 (concatenate S51200 0 [⟨S50000, Host.scatter scatter_S50000_S1_S__n_0_0_0 (fun _ b => b) x4
      (broadcastInDim S1 ![] bcast_S_S1 (select (cmpi .slt x7 (constantI S_ 32 0#32)) (addi x7 (constantI S_ 32 50000#32)) x7))
      (constant (F := Ideal) S_ .f32 0xFF800000#32)⟩, ⟨S1200, broadcastInDim S1200 ![] bcast_S_S1200 (constant (F := Ideal) S_ .f32 0x00000000#32)⟩]
      concatenates_S50000_S1200_S51200_d0) shapeCasts_S51200_S1x51200

theorem v7_eq : V1 m c main_v7 = biasExt (m ((c : Thread nD τ).loc main_arg4)) (m ((c : Thread nD τ).loc main_arg7)) := by
  unfold V1
  after_results
  rfl

/-- The gate's weights as the first call reads them. -/
theorem v8 (k : Fin 1024) : (V1 m c main_v8 : S1024x1.Idx → EReal) (ix2 k (0 : Fin 1)) = m ((c : Thread nD τ).loc main_arg5) (ix1 k) := by
  rw [v8_eq]
  pointwise

/-- The gate's bias as the first call reads it. -/
theorem v9 : (V1 m c main_v9 : S1x1.Idx → EReal) (ix2 (0 : Fin 1) (0 : Fin 1)) = m ((c : Thread nD τ).loc main_arg6) (ix1 (0 : Fin 1)) := by
  rw [v9_eq]
  pointwise

/-- At a column of the vocabulary it is the masked bias. -/
theorem biasExt_apply (x4 : S50000.Idx → EReal) (x7 : S_.Idx → BitVec 32) (j : Fin 51200) (h : j.val < 50000) :
    biasExt x4 x7 (ix2 (0 : Fin 1) j) = Spec.bias x4 x7 ⟨j.val, h⟩ := by
  unfold biasExt
  generalize hi : (broadcastInDim S1 ![] bcast_S_S1 (select (cmpi .slt x7 (constantI S_ 32 0#32)) (addi x7 (constantI S_ 32 50000#32)) x7)) = idx
  have hidx : idx (ix1 (0 : Fin 1)) = Spec.padWord x7 := by
    rw [← hi]; unfold Spec.padWord; pointwise
  have hs := Mask.scatter_vec x4 idx (constant (F := Ideal) S_ .f32 0xFF800000#32) ⊥ (fun _ => Pay.ofBits_bot) ⟨j.val, h⟩
  unfold Spec.bias
  rw [← hidx, ← hs]
  generalize Host.scatter scatter_S50000_S1_S__n_0_0_0 (fun _ b => b) x4 idx (constant (F := Ideal) S_ .f32 0xFF800000#32) = y
  pointwise
  rw [dif_pos h]

end Cert.KernelIdeal.HostValues
-- ==== Proof.KernelIdeal.Value.K0Value.lean ====
/-
  What the gate-and-copy call leaves: the gate in every lane of a row, and the copied part between zeros.
-/
module

public import proofs.«01_k».proof.Proof.KernelIdeal.Value.HostValues
public import Idealize.ShloMosaic.Lib.Pipeline.ValueKit

@[expose] public section

noncomputable section

namespace Cert.KernelIdeal.K0Value

open Idealize.ShloMosaic Idealize.ShloMosaic.TcCoe Cert.KernelIdeal Cert.KernelIdeal.Gen Cert.KernelIdeal.Own.K0

variable (m : (ℓ : Loc nD τ sig) → Buf (Elt Ideal) ℓ) (c : Dev nD)

/-- The arguments, as functions into the extended reals. -/
abbrev a0 : S2048x1024.Idx → EReal := m ((c : Thread nD τ).loc main_arg0)
abbrev a1 : S2048x512.Idx → EReal := m ((c : Thread nD τ).loc main_arg1)
abbrev a2 : S16x512x512.Idx → EReal := m ((c : Thread nD τ).loc main_arg2)
abbrev a3 : S50000x1024.Idx → EReal := m ((c : Thread nD τ).loc main_arg3)
abbrev a4 : S50000.Idx → EReal := m ((c : Thread nD τ).loc main_arg4)
abbrev a5 : S1024.Idx → EReal := m ((c : Thread nD τ).loc main_arg5)
abbrev a6 : S1.Idx → EReal := m ((c : Thread nD τ).loc main_arg6)
abbrev a7 : S_.Idx → BitVec 32 := m ((c : Thread nD τ).loc main_arg7)

/-- Every window's block index at a point. -/
theorem idx : ∀ t : Fin cfg0.N, win0_0.index t = ![t.val, 0] ∧ win0_1.index t = ![t.val, 0] ∧ win0_2.index t = ![t.val, 0, 0]
    ∧ win0_3.index t = ![0, 0] ∧ win0_4.index t = ![0, 0] ∧ win0_5.index t = ![t.val, 0] ∧ win0_6.index t = ![t.val, 0] :=
  (by decide +kernel : ∀ t : Fin grid0.N, _)

/-- Row `r` of block `t`. -/
abbrev row (t : Fin cfg0.N) (r : Fin 128) : Fin 2048 := ⟨t.val * 128 + r.val, by have := t.isLt; have : t.val < 16 := this; omega⟩

/-- The hidden states' block. -/
theorem blk0 (t : Fin cfg0.N) (r : Fin 128) (k : Fin 1024) : (iblk (Own.Ve0 m) c 0 t : S128x1024.Idx → EReal) (ix2 r k) = a0 m c (ix2 (row t r) k) := by
  have e : V1 m c main_arg0 = m ((c : Thread nD τ).loc main_arg0) := (V1_of m c main_arg0 (by decide)).trans rfl
  unfold iblk
  show _root_.cast _ (V1 m c main_arg0 _) = _
  rw [e]
  blk_ext! [idx t]

/-- The attention's block. -/
theorem blk1 (t : Fin cfg0.N) (r : Fin 128) (k : Fin 512) : (iblk (Own.Ve0 m) c 1 t : S128x512.Idx → EReal) (ix2 r k) = a1 m c (ix2 (row t r) k) := by
  have e : V1 m c main_arg1 = m ((c : Thread nD τ).loc main_arg1) := (V1_of m c main_arg1 (by decide)).trans rfl
  unfold iblk
  show _root_.cast _ (V1 m c main_arg1 _) = _
  rw [e]
  blk_ext! [idx t]

/-- The map's block. -/
theorem blk2 (t : Fin cfg0.N) (s j : Fin 512) : (iblk (Own.Ve0 m) c 2 t : S1x512x512.Idx → EReal) (ix3 (0 : Fin 1) s j)
    = a2 m c (ix3 (⟨t.val, t.isLt⟩ : Fin 16) s j) := by
  have e : V1 m c main_arg2 = m ((c : Thread nD τ).loc main_arg2) := (V1_of m c main_arg2 (by decide)).trans rfl
  unfold iblk
  show _root_.cast _ (V1 m c main_arg2 _) = _
  rw [e]
  blk_ext! [idx t]

/-- The gate's weights. -/
theorem blk3 (t : Fin cfg0.N) (k : Fin 1024) : (iblk (Own.Ve0 m) c 3 t : S1024x1.Idx → EReal) (ix2 k (0 : Fin 1)) = a5 m c (ix1 k) := by
  refine Eq.trans ?_ (HostValues.v8 m c k)
  unfold iblk
  blk_ext! [idx t]

/-- The gate's bias. -/
theorem blk4 (t : Fin cfg0.N) : (iblk (Own.Ve0 m) c 4 t : S1x1.Idx → EReal) (ix2 (0 : Fin 1) (0 : Fin 1)) = a6 m c (ix1 (0 : Fin 1)) := by
  refine Eq.trans ?_ (HostValues.v9 m c)
  unfold iblk
  blk_ext! [idx t]

/-- A block's gate is its rows'. -/
theorem gate (t : Fin cfg0.N) (r : Fin 128) : k0_pay1 (F := Ideal) (iblk (Own.Ve0 m) c 0 t) (iblk (Own.Ve0 m) c 3 t) (iblk (Own.Ve0 m) c 4 t) (ix2 r (0 : Fin 1))
    = Spec.gate (a0 m c) (a5 m c) (a6 m c) (row t r) := by
  refine (Pay.gate _ _ _ r).trans ?_
  unfold Spec.gate
  rw [blk4]
  congr 5
  exact Finset.sum_congr rfl fun k _ => by rw [blk0, blk3]

/-- The gate's array. -/
theorem pc_final : (Launch.dat0 m c).arrAt 5 cfg0.N = fun i => Spec.gate (a0 m c) (a5 m c) (a6 m c) (i 0) := by
  refine (Launch.dat0 m c).arrAt_eq_of_covers 5 _ (by decide +kernel) fun t hf y => ?_
  blk_simp
  rw [after0_5]
  unfold outsAt0
  frame_out
  obtain ⟨r, l, rfl⟩ : ∃ (r l : Fin 128), y = ix2 r l := ⟨y 0, y 1, by funext a; match a with | ⟨0, _⟩ => rfl | ⟨1, _⟩ => rfl⟩
  refine ((Pay.pc _ _ _ r l).trans (gate m c t r)).trans (congrArg _ ?_)
  apply Fin.ext
  blk_simp [idx t]

/-- What the copied part's array holds: the copied part at columns 848 to 1359, zeros elsewhere. -/
def cpArr (x0 : S2048x1024.Idx → EReal) (x1 : S2048x512.Idx → EReal) (x2 : S16x512x512.Idx → EReal) (x5 : S1024.Idx → EReal) (x6 : S1.Idx → EReal)
    (r : Fin 2048) (q : Fin 2048) : EReal :=
  if h : 848 ≤ q.val ∧ q.val < 1360 then Spec.copyPart x0 x1 x2 x5 x6 r ⟨q.val - 848, by omega⟩ else 0

/-- The copied part's array. -/
theorem cp_final : (Launch.dat0 m c).arrAt 6 cfg0.N = fun i => cpArr (a0 m c) (a1 m c) (a2 m c) (a5 m c) (a6 m c) (i 0) (i 1) := by
  refine (Launch.dat0 m c).arrAt_eq_of_covers 6 _ (by decide +kernel) fun t hf y => ?_
  blk_simp
  rw [after0_6]
  unfold outsAt0
  frame_out
  obtain ⟨r, q, rfl⟩ : ∃ (r : Fin 128) (q : Fin 2048), y = ix2 r q := ⟨y 0, y 1, by funext a; match a with | ⟨0, _⟩ => rfl | ⟨1, _⟩ => rfl⟩
  have e0 : (((View.whole main_v10_1).slice (win0_6.rect t)).emb (ix2 r q) 0 : Fin 2048) = row t r := by
    apply Fin.ext
    blk_simp [idx t]
  have e1 : (((View.whole main_v10_1).slice (win0_6.rect t)).emb (ix2 r q) 1 : Fin 2048) = q := by
    apply Fin.ext
    blk_simp [idx t]
  rw [e0, e1]
  unfold cpArr
  split
  · next h =>
    refine (Pay.cp_mid _ _ _ _ _ r ⟨q.val - 848, by omega⟩ q (by simp only; omega)).trans ?_
    unfold Spec.copyPart
    refine Finset.sum_congr rfl fun s _ => ?_
    rw [gate, blk1, blk2]
    congr 3
    apply Fin.ext
    simp only [Spec.batch, row]
    omega
  · exact Pay.cp_out _ _ _ _ _ r q (by omega)

end Cert.KernelIdeal.K0Value
-- ==== Proof.KernelIdeal.Value.Step.lean ====
/-
  A block of the logits call keeps the row statistics: the running maximum and sum of the columns before it become those of the columns
  before and in it.
-/
module

public import proofs.«01_k».proof.Proof.KernelIdeal.Value.Pay
public import proofs.«01_k».proof.Proof.KernelIdeal.Value.Online

@[expose] public section

noncomputable section

namespace Cert.KernelIdeal.Step

open Idealize.ShloMosaic Cert.KernelIdeal Cert.KernelIdeal.Gen

variable (v3 : Vec Ideal S2048x1024 .f32) (v4 : Vec Ideal S1280x1024 .f32) (v6 : Vec Ideal S1x1280 .f32) (x : FVec Ideal S2048x1280 .f32)
  (M Z : Vec Ideal S2048x1 .f32) (a : BitVec 32) (r : Fin 2048) {L : ℕ → EReal} {n : ℕ}

/-- The larger of the maximum so far and a block's. -/
theorem top_block (y : FVec Ideal S2048x1280 .f32) (hy : ∀ k : Fin 1280, y (ix2 r k) = L (n + k.val)) (hM : M (ix2 r (0 : Fin 1)) = Online.top L n) :
    max (M (ix2 r (0 : Fin 1))) (Pay.rowMax y r) = Online.top L (n + 1280) := by
  rw [Online.top_add, hM]
  exact congrArg (max _) (Finset.fold_congr fun k _ => hy k)

/-- The maximum after a block. -/
theorem step_top (hy : ∀ k : Fin 1280, k1_pay3 (F := Ideal) v3 v4 v6 (ix2 r k) = L (n + k.val)) (hM : M (ix2 r (0 : Fin 1)) = Online.top L n) :
    k1_pay4 (F := Ideal) v3 v4 v6 M (ix2 r (0 : Fin 1)) = Online.top L (n + 1280) :=
  (Pay.step_max v3 v4 v6 M r).trans (top_block M r _ hy hM)

/-- The sum after a block. -/
theorem step_mass (hL : ∀ j, L j ≠ ⊤) (hy : ∀ k : Fin 1280, k1_pay3 (F := Ideal) v3 v4 v6 (ix2 r k) = L (n + k.val))
    (hM : M (ix2 r (0 : Fin 1)) = Online.top L n) (hZ : Z (ix2 r (0 : Fin 1)) = Online.mass L n) :
    k1_pay6 (F := Ideal) v3 v4 v6 M Z (ix2 r (0 : Fin 1)) = Online.mass L (n + 1280) := by
  rw [Pay.step_sum, step_top v3 v4 v6 M r hy hM, Online.mass_add hL, hM, hZ]
  congr 1
  exact Finset.sum_congr rfl fun k _ => by rw [hy]

/-- The maximum after the last block. -/
theorem last_top (hy : ∀ k : Fin 1280, k1_pay8 (F := Ideal) a x (ix2 r k) = L (n + k.val)) (hM : M (ix2 r (0 : Fin 1)) = Online.top L n) :
    k1_pay9 (F := Ideal) a x M (ix2 r (0 : Fin 1)) = Online.top L (n + 1280) :=
  (Pay.last_max x M a r).trans (top_block M r _ hy hM)

/-- The sum after the last block. -/
theorem last_mass (hL : ∀ j, L j ≠ ⊤) (hy : ∀ k : Fin 1280, k1_pay8 (F := Ideal) a x (ix2 r k) = L (n + k.val))
    (hM : M (ix2 r (0 : Fin 1)) = Online.top L n) (hZ : Z (ix2 r (0 : Fin 1)) = Online.mass L n) :
    k1_pay10 (F := Ideal) a x M Z (ix2 r (0 : Fin 1)) = Online.mass L (n + 1280) := by
  rw [Pay.last_sum, last_top x M a r hy hM, Online.mass_add hL, hM, hZ]
  congr 1
  exact Finset.sum_congr rfl fun k _ => by rw [hy]

end Cert.KernelIdeal.Step
-- ==== Proof.KernelIdeal.Value.K1Value.lean ====
/-
  What the blocks of the logits call hold: each block's logits, the last block's once masked, and the running
  maximum and sum.
-/
module

public import proofs.«01_k».proof.Proof.KernelIdeal.Value.K0Value
public import proofs.«01_k».proof.Proof.KernelIdeal.Value.Step

@[expose] public section

noncomputable section

namespace Cert.KernelIdeal.K1Value

open Idealize.ShloMosaic Idealize.ShloMosaic.TcCoe Cert.KernelIdeal Cert.KernelIdeal.Gen
open Cert.KernelIdeal.K0Value (a0 a3 a4 a7)

variable (m : (ℓ : Loc nD τ sig) → Buf (Elt Ideal) ℓ) (c : Dev nD)

/-- The logits of a row. -/
abbrev L (r : Fin 2048) : ℕ → EReal := Spec.logit (a0 m c) (a3 m c) (a4 m c) (a7 m c) r

/-- Every window's block index at a point. -/
theorem idx : ∀ t : Fin cfg1.N, win1_0.index t = ![0, 0] ∧ win1_1.index t = ![t.val, 0] ∧ win1_2.index t = ![0, t.val]
    ∧ win1_3.index t = ![0, t.val] ∧ win1_4.index t = ![0, 0] ∧ win1_5.index t = ![0, 0] :=
  (by decide +kernel : ∀ t : Fin grid1.N, _)

/-- How many rows of the weights' block lie in the matrix. -/
theorem xrows : ∀ t : Fin grid1.N, win1_1.xsize (grid1.coords t) 0 = min 1280 (50000 - t.val * 1280) ∧ win1_1.xsize (grid1.coords t) 1 = 1024 := by
  decide +kernel

/-- The body reads the point's number. -/
theorem kidx_last : ∀ t : Fin grid1.N, t.val = 39 → K1.kidx t = 39#32 := by decide +kernel

/-- The hidden states. -/
theorem hid (t : Fin cfg1.N) (r : Fin 2048) (k : Fin 1024) : K1.hid (Launch.Ve1 m) c t (ix2 r k) = a0 m c (ix2 r k) := by
  have e : Launch.W2 m c main_arg0 = m ((c : Thread nD τ).loc main_arg0) :=
    (V2_of m _ c main_arg0 (by decide)).trans ((V1_of m c main_arg0 (by decide)).trans rfl)
  unfold K1.hid K1.iblk
  show _root_.cast _ (Launch.W2 m c main_arg0 _) = _
  rw [e]
  blk_ext! [idx t]

/-- The bias block. -/
theorem bias (t : Fin cfg1.N) (j : Fin 1280) (q : Fin 51200) (hq : q.val = t.val * 1280 + j.val) :
    K1.bias (Launch.Ve1 m) c t (ix2 (0 : Fin 1) j) = HostValues.biasExt (a4 m c) (a7 m c) (ix2 (0 : Fin 1) q) := by
  have e : Launch.W2 m c main_v7 = HostValues.biasExt (a4 m c) (a7 m c) :=
    (V2_of m _ c main_v7 (by decide)).trans (HostValues.v7_eq m c)
  unfold K1.bias K1.iblk
  show _root_.cast _ (Launch.W2 m c main_v7 _) = _
  rw [e]
  have hlt : t.val * 1280 + j.val < 51200 := hq ▸ q.isLt
  rw [show q = ⟨t.val * 1280 + j.val, hlt⟩ from Fin.ext hq]
  generalize HostValues.biasExt (a4 m c) (a7 m c) = B
  blk_ext! [idx t]

/-- A row of the weights' block that lies in the matrix. -/
theorem wblk (t : Fin cfg1.N) (d : Vec Ideal S1280x1024 .f32) (j : Fin 1280) (k : Fin 1024) (q : Fin 50000) (hq : q.val = t.val * 1280 + j.val) :
    K1.wblk (Launch.Ve1 m) c t d (ix2 j k) = a3 m c (ix2 q k) := by
  have e : Launch.W2 m c main_arg3 = m ((c : Thread nD τ).loc main_arg3) :=
    (V2_of m _ c main_arg3 (by decide)).trans ((V1_of m c main_arg3 (by decide)).trans rfl)
  have hm : win1_1.moved (grid1.coords t) (ix2 j k) = true := (win1_1.moved_iff _ _).mpr fun a => by
    match a with
    | ⟨0, _⟩ => refine lt_of_lt_of_eq ?_ (xrows t).1.symm; show j.val < _; omega
    | ⟨1, _⟩ => exact lt_of_lt_of_eq k.isLt (xrows t).2.symm
  unfold K1.wblk
  show win1_1.fill _ _ _ _ = _
  unfold Pipeline.Window.fill
  rw [dif_pos hm]
  unfold K1.iblk
  show _root_.cast _ (Launch.W2 m c main_arg3 _) = _
  rw [e]
  have hlt : t.val * 1280 + j.val < 50000 := hq ▸ q.isLt
  rw [show q = ⟨t.val * 1280 + j.val, hlt⟩ from Fin.ext hq]
  blk_ext! [idx t]

/-- A block's logits at its columns of the vocabulary. -/
theorem logits (t : Fin cfg1.N) (d : Vec Ideal S1280x1024 .f32) (r : Fin 2048) (j : Fin 1280) (h : t.val * 1280 + j.val < 50000) :
    K1.logits (Launch.Ve1 m) c t d (ix2 r j) = L m c r (t.val * 1280 + j.val) := by
  refine (Pay.logits _ _ _ r j).trans ?_
  unfold L Spec.logit
  rw [dif_pos h, bias m c t j ⟨t.val * 1280 + j.val, by omega⟩ rfl, HostValues.biasExt_apply _ _ _ h]
  congr 1
  exact Finset.sum_congr rfl fun k _ => by rw [hid, wblk m c t d j k ⟨t.val * 1280 + j.val, h⟩ rfl]

/-- The last block's logits once masked. -/
theorem masked (t : Fin cfg1.N) (ht : t.val = 39) (d : Vec Ideal S1280x1024 .f32) (r : Fin 2048) (j : Fin 1280) :
    k1_pay8 (F := Ideal) (K1.kidx t) (K1.logits (Launch.Ve1 m) c t d) (ix2 r j) = L m c r (39 * 1280 + j.val) := by
  rw [kidx_last t ht, Pay.masked]
  split
  · next h => rw [logits m c t d r j (by omega), ht]
  · next h => unfold L Spec.logit; rw [dif_neg (by omega)]

/-- The running maximum and sum are those of the columns seen. -/
theorem fold (hL : ∀ r j, L m c r j ≠ ⊤) (r : Fin 2048) : ∀ n, n ≤ 39 →
    (K1.fold (Launch.Ve1 m) c n).1 (ix2 r (0 : Fin 1)) = Online.top (L m c r) (n * 1280)
      ∧ (K1.fold (Launch.Ve1 m) c n).2 (ix2 r (0 : Fin 1)) = Online.mass (L m c r) (n * 1280)
  | 0, _ => by
    constructor
    · exact (Pay.start_max r).trans (by rw [Nat.zero_mul, Online.top, Finset.range_zero, Finset.sup_empty])
    · exact (Pay.start_sum r).trans (by rw [Nat.zero_mul, Online.mass, Finset.range_zero, Finset.sum_empty])
  | n + 1, hn => by
    obtain ⟨h1, h2⟩ := fold hL r n (by omega)
    have hN : n < cfg1.N := show n < 40 by omega
    have hl : ∀ k : Fin 1280, k1_pay3 (F := Ideal) (K1.hid (Launch.Ve1 m) c ⟨n, hN⟩) (K1.wblk0 (Launch.Ve1 m) c ⟨n, hN⟩) (K1.bias (Launch.Ve1 m) c ⟨n, hN⟩) (ix2 r k)
        = L m c r (n * 1280 + k.val) := fun k => logits m c ⟨n, hN⟩ _ r k (show n * 1280 + k.val < 50000 by omega)
    have e := K1.fold_succ (Launch.Ve1 m) c ⟨n, hN⟩
    rw [show (n + 1) * 1280 = n * 1280 + 1280 by omega]
    constructor
    · rw [congrArg Prod.fst e]
      exact (Pay.step_max' _ _ _ _ r).trans (Step.step_top _ _ _ _ r hl h1)
    · rw [congrArg Prod.snd e]
      exact Step.step_mass _ _ _ _ _ r (hL r) hl h1 h2

/-- Columns past the vocabulary change neither maximum nor sum. -/
theorem logit_past (r : Fin 2048) (j : ℕ) (h : 50000 ≤ j) : L m c r j = ⊥ := by
  unfold L Spec.logit; rw [dif_neg (by omega)]

/-- The maximum after the last block is that over the vocabulary. -/
theorem last_max (hL : ∀ r j, L m c r j ≠ ⊤) (t : Fin cfg1.N) (ht : t.val = 39) (d : Vec Ideal S1280x1024 .f32) (r : Fin 2048) :
    k1_pay9 (F := Ideal) (K1.kidx t) (K1.logits (Launch.Ve1 m) c t d) (K1.fold (Launch.Ve1 m) c t.val).1 (ix2 r (0 : Fin 1))
      = Online.top (L m c r) 50000 := by
  rw [ht]
  exact (Step.last_top _ _ _ r (masked m c t ht d r) (fold m c hL r 39 le_rfl).1).trans (Online.top_of_bot 50000 1200 (logit_past m c r))

/-- And so is the sum. -/
theorem last_sum (hL : ∀ r j, L m c r j ≠ ⊤) (t : Fin cfg1.N) (ht : t.val = 39) (d : Vec Ideal S1280x1024 .f32) (r : Fin 2048) :
    k1_pay10 (F := Ideal) (K1.kidx t) (K1.logits (Launch.Ve1 m) c t d) (K1.fold (Launch.Ve1 m) c t.val).1 (K1.fold (Launch.Ve1 m) c t.val).2 (ix2 r (0 : Fin 1))
      = Online.mass (L m c r) 50000 := by
  rw [ht]
  exact (Step.last_mass _ _ _ _ r (hL r) (masked m c t ht d r) (fold m c hL r 39 le_rfl).1 (fold m c hL r 39 le_rfl).2).trans
    (Online.mass_of_bot 50000 1200 (logit_past m c r))

end Cert.KernelIdeal.K1Value
-- ==== Proof.KernelIdeal.Value.K1Final.lean ====
/-
  The logits call's three arrays: every row's masked logits, and in every lane their maximum and the sum of their exponentials below it.
-/
module

public import proofs.«01_k».proof.Proof.KernelIdeal.Value.K1Value

@[expose] public section

noncomputable section

namespace Cert.KernelIdeal.K1Value

open Idealize.ShloMosaic Idealize.ShloMosaic.TcCoe Cert.KernelIdeal Cert.KernelIdeal.Gen
open Cert.KernelIdeal.K0Value (a0 a3 a4 a7)

variable (m : (ℓ : Loc nD τ sig) → Buf (Elt Ideal) ℓ) (c : Dev nD)

variable {G : (w : Fin cfg1.W) → Buf (Elt Ideal) ((cfg1.win w).arr.view.loc (c : Thread nD τ))}

/-- The maximum's array. -/
theorem m_final (hL : ∀ r j, L m c r j ≠ ⊤) (hG : ∀ w, (Launch.rdat1 m c).ArrAt w cfg1.N (G w)) (r : Fin 2048) (l : Fin 128) :
    (G 4 : S2048x128.Idx → EReal) (ix2 r l) = Online.top (L m c r) 50000 := by
  have h4 : (cfg1.win 4).WholeAt (⟨39, by decide⟩ : Fin cfg1.N) := by decide +kernel
  obtain ⟨X, hX, hE⟩ := (hG 4).emb_eq_of_wholeAt h4
  obtain ⟨d, rfl⟩ := Pipeline.Dat.toRRel_leaves (Launch.dat1 m c) rfl hX rfl
  refine (hE (ix2 r l)).trans ?_
  exact (Pay.out_max _ _ _ r l).trans (last_max m c hL _ rfl d r)

/-- The sum's array. -/
theorem s_final (hL : ∀ r j, L m c r j ≠ ⊤) (hG : ∀ w, (Launch.rdat1 m c).ArrAt w cfg1.N (G w)) (r : Fin 2048) (l : Fin 128) :
    (G 5 : S2048x128.Idx → EReal) (ix2 r l) = Online.mass (L m c r) 50000 := by
  have h5 : (cfg1.win 5).WholeAt (⟨39, by decide⟩ : Fin cfg1.N) := by decide +kernel
  obtain ⟨X, hX, hE⟩ := (hG 5).emb_eq_of_wholeAt h5
  obtain ⟨d, rfl⟩ := Pipeline.Dat.toRRel_leaves (Launch.dat1 m c) rfl hX rfl
  refine (hE (ix2 r l)).trans ?_
  exact (Pay.out_sum _ _ _ _ r l).trans (last_sum m c hL _ rfl d r)

/-- The logits' array. -/
theorem lg_final (hG : ∀ w, (Launch.rdat1 m c).ArrAt w cfg1.N (G w)) (r : Fin 2048) (q : Fin 51200) :
    (G 3 : S2048x51200.Idx → EReal) (ix2 r q) = L m c r q.val := by
  obtain ⟨after, hX, hE⟩ := Pipeline.RDat.ArrAt.exists_exact_all hG
  have key : G 3 = fun i => L m c (i 0) (i 1).val := by
    rw [hE 3]
    refine ((Launch.rdat1 m c).withAfter after).arrAt_eq_of_covers 3 _ (by decide +kernel) fun t hf y => ?_
    have hl : K1.Lg (Launch.Ve1 m) c t (after 3 t) := Pipeline.Dat.toRRel_leaves (Launch.dat1 m c) rfl (hX 3 t t.isLt hf)
    blk_simp
    obtain ⟨r, j, rfl⟩ : ∃ (r : Fin 2048) (j : Fin 1280), y = ix2 r j := ⟨y 0, y 1, by funext a; match a with | ⟨0, _⟩ => rfl | ⟨1, _⟩ => rfl⟩
    have e0 : ((win1_3.blk t).view.emb (ix2 r j) 0 : Fin 2048) = r := by
      apply Fin.ext
      blk_simp [idx t]
    have e1 : win1_3.index t 1 * 1280 + ((ix2 r j : S2048x1280.Idx) 1).val = t.val * 1280 + j.val := by
      rw [(idx t).2.2.2.1]; rfl
    refine (show _ = after 3 t (ix2 r j) from rfl).trans (Eq.trans ?_ (congrArg₂ (L m c) e0 e1).symm)
    have ht : t.val < 40 := t.isLt
    by_cases h : t.val < 39
    · rw [hl.1 h]
      refine (Pay.out_logits _ _ _ r j).trans ?_
      exact logits m c t _ r j (by omega)
    · obtain ⟨d, hd⟩ := hl.2 (by omega)
      rw [hd]
      refine (Pay.out_last _ _ r j).trans ?_
      rw [masked m c t (by omega) d r j, show t.val = 39 by omega]
  rw [key]
  rfl

end Cert.KernelIdeal.K1Value
-- ==== Proof.KernelIdeal.Value.K2Value.lean ====
/-
  What the last call leaves: the two parts of the result side by side.
-/
module

public import proofs.«01_k».proof.Proof.KernelIdeal.Value.K1Final

@[expose] public section

noncomputable section

namespace Cert.KernelIdeal.K2Value

open Idealize.ShloMosaic Idealize.ShloMosaic.TcCoe Cert.KernelIdeal Cert.KernelIdeal.Gen Cert.KernelIdeal.Own.K2
open Cert.KernelIdeal.K0Value (a0 a1 a2 a3 a4 a5 a6 a7 cpArr)
open Cert.KernelIdeal.K1Value (L)

variable (m : (ℓ : Loc nD τ sig) → Buf (Elt Ideal) ℓ) (c : Dev nD) (A : Launch.Arrs (F := Ideal))

/-- Every window's block index at a point. -/
theorem idx : ∀ t : Fin cfg2.N, win2_0.index t = ![t.val / 25, t.val % 25] ∧ win2_1.index t = ![t.val / 25, 0] ∧ win2_2.index t = ![t.val / 25, 0]
    ∧ win2_3.index t = ![t.val / 25, 0] ∧ win2_4.index t = ![t.val / 25, 0] ∧ win2_5.index t = ![t.val / 25, t.val % 25] :=
  (by decide +kernel : ∀ t : Fin grid2.N, _)

/-- A point's second coordinate. -/
theorem col : ∀ t : Fin grid2.N, (grid2.coords t 1).val = t.val % 25 := by decide +kernel

/-- Row `r` of a point's block. -/
abbrev row (t : Fin cfg2.N) (r : Fin 1024) : Fin 2048 := ⟨t.val / 25 * 1024 + r.val, by have := t.isLt; have : t.val < 50 := this; omega⟩
/-- Column `q` of a point's block, in the logits' array. -/
abbrev lane (t : Fin cfg2.N) (q : Fin 2048) : Fin 51200 := ⟨t.val % 25 * 2048 + q.val, by omega⟩

/-- The gate's array as the call finds it. -/
theorem in_pc : V3 m (Launch.outs1 m A) c main_v10_0 = fun i => Spec.gate (a0 m c) (a5 m c) (a6 m c) (i 0) := by
  refine (V3_of m _ c main_v10_0 (by decide)).trans (Eq.trans ?_ ((congrFun (Launch.outs1_v10_0 m A) c).trans (K0Value.pc_final m c)))
  show V2 m (Launch.outs1 m A) c (Proc.devRef .tc main_v10_0) = _
  simp only [V2, Function.update_of_ne (StableHlo.devRef_ne_of_ne (by decide : (main_v10_0 : Ref sig .tc) ≠ main_v10_1)), Function.update_self]

/-- The copied part's. -/
theorem in_cp : V3 m (Launch.outs1 m A) c main_v10_1 = fun i => cpArr (a0 m c) (a1 m c) (a2 m c) (a5 m c) (a6 m c) (i 0) (i 1) := by
  refine (V3_of m _ c main_v10_1 (by decide)).trans (Eq.trans ?_ ((congrFun (Launch.outs1_v10_1 m A) c).trans (K0Value.cp_final m c)))
  show V2 m (Launch.outs1 m A) c (Proc.devRef .tc main_v10_1) = _
  simp only [V2, Function.update_self]

/-- The gate's block. -/
theorem blk3 (t : Fin cfg2.N) (r : Fin 1024) (l : Fin 128) : (iblk (Own.Ve2 m (Launch.outs1 m A)) c 3 t : S1024x128.Idx → EReal) (ix2 r l)
    = Spec.gate (a0 m c) (a5 m c) (a6 m c) (row t r) := by
  unfold iblk
  show _root_.cast _ (V3 m (Launch.outs1 m A) c main_v10_0 _) = _
  rw [in_pc]
  refine congrArg (Spec.gate (a0 m c) (a5 m c) (a6 m c)) ?_
  apply Fin.ext
  blk_simp [idx t]

/-- The copied part's block. -/
theorem blk4 (t : Fin cfg2.N) (r : Fin 1024) (q : Fin 2048) : (iblk (Own.Ve2 m (Launch.outs1 m A)) c 4 t : S1024x2048.Idx → EReal) (ix2 r q)
    = cpArr (a0 m c) (a1 m c) (a2 m c) (a5 m c) (a6 m c) (row t r) q := by
  unfold iblk
  show _root_.cast _ (V3 m (Launch.outs1 m A) c main_v10_1 _) = _
  rw [in_cp]
  refine congrArg₂ (cpArr (a0 m c) (a1 m c) (a2 m c) (a5 m c) (a6 m c)) ?_ ?_
  · apply Fin.ext
    blk_simp [idx t]
  · apply Fin.ext
    blk_simp [idx t]

variable (hA : ∀ w, (Launch.rdat1 m c).ArrAt w cfg1.N (A c w))
include hA

/-- The logits' block. -/
theorem blk0 (t : Fin cfg2.N) (r : Fin 1024) (q : Fin 2048) : (iblk (Own.Ve2 m (Launch.outs1 m A)) c 0 t : S1024x2048.Idx → EReal) (ix2 r q)
    = L m c (row t r) (t.val % 25 * 2048 + q.val) := by
  have e : V3 m (Launch.outs1 m A) c main_v11_0 = A c 3 := (Launch.V3_arr m c A hA 3).symm
  refine Eq.trans ?_ (K1Value.lg_final m c hA (row t r) (lane t q))
  unfold iblk
  show _root_.cast _ (V3 m (Launch.outs1 m A) c main_v11_0 _) = _
  rw [e]
  generalize A c 3 = B
  blk_ext! [idx t]

variable (hL : ∀ r j, L m c r j ≠ ⊤)
include hL

/-- The maximum's block. -/
theorem blk1 (t : Fin cfg2.N) (r : Fin 1024) (l : Fin 128) : (iblk (Own.Ve2 m (Launch.outs1 m A)) c 1 t : S1024x128.Idx → EReal) (ix2 r l)
    = Online.top (L m c (row t r)) 50000 := by
  have e : V3 m (Launch.outs1 m A) c main_v11_1 = A c 4 := (Launch.V3_arr m c A hA 4).symm
  refine Eq.trans ?_ (K1Value.m_final m c hL hA (row t r) l)
  unfold iblk
  show _root_.cast _ (V3 m (Launch.outs1 m A) c main_v11_1 _) = _
  rw [e]
  generalize A c 4 = B
  blk_ext! [idx t]

/-- The sum's block. -/
theorem blk2 (t : Fin cfg2.N) (r : Fin 1024) (l : Fin 128) : (iblk (Own.Ve2 m (Launch.outs1 m A)) c 2 t : S1024x128.Idx → EReal) (ix2 r l)
    = Online.mass (L m c (row t r)) 50000 := by
  have e : V3 m (Launch.outs1 m A) c main_v11_2 = A c 5 := (Launch.V3_arr m c A hA 5).symm
  refine Eq.trans ?_ (K1Value.s_final m c hL hA (row t r) l)
  unfold iblk
  show _root_.cast _ (V3 m (Launch.outs1 m A) c main_v11_2 _) = _
  rw [e]
  generalize A c 5 = B
  blk_ext! [idx t]

/-- A block of the result. -/
theorem block (hS : ∀ r, Online.mass (L m c r) 50000 ≠ 0) (t : Fin cfg2.N) (r : Fin 1024) (q : Fin 2048) (j : Fin 50512)
    (hj : j.val = t.val % 25 * 2048 + q.val) :
    k2_pay1 (F := Ideal) (grid2.coords t) (iblk (Own.Ve2 m (Launch.outs1 m A)) c 1 t) (iblk (Own.Ve2 m (Launch.outs1 m A)) c 2 t)
      (iblk (Own.Ve2 m (Launch.outs1 m A)) c 3 t) (iblk (Own.Ve2 m (Launch.outs1 m A)) c 0 t) (iblk (Own.Ve2 m (Launch.outs1 m A)) c 4 t) (ix2 r q)
      = Spec.out (a0 m c) (a1 m c) (a2 m c) (a3 m c) (a4 m c) (a5 m c) (a6 m c) (a7 m c) (row t r) j := by
  refine (Pay.result _ _ _ _ _ _ r q _ _ _ (blk1 m c A hA hL t r) (blk2 m c A hA hL t r) (blk3 m c A t r)).trans ?_
  rw [blk0 m c A hA t r q, blk4 m c A t r q, Online.mul_div_comm (hS _), col t, ← hj]
  have hq := q.isLt
  have hj' := j.isLt
  unfold Spec.out cpArr
  by_cases h : j.val < 50000
  · rw [dif_pos h]
    by_cases h' : t.val % 25 = 24
    · rw [dif_neg (by omega), zero_mul, add_zero]
      rfl
    · rw [if_neg h', mul_zero, add_zero]
      rfl
  · have h' : t.val % 25 = 24 := by
      have := Nat.mod_lt t.val (show 0 < 25 by decide)
      generalize t.val % 25 = k at *
      omega
    rw [dif_neg h, K1Value.logit_past m c _ _ (by omega), if_pos h', EReal.bot_sub, Ideal.exp_bot, mul_one, dif_pos (by omega),
      Ideal.div, if_neg (hS _), zero_mul, zero_mul, zero_add]
    refine congrArg _ (Fin.ext ?_)
    show q.val - 848 = j.val - 50000
    omega

/-- The result's array. -/
theorem out_final (hS : ∀ r, Online.mass (L m c r) 50000 ≠ 0) : (Launch.dat2 m A c).arrAt 5 cfg2.N
    = fun i => Spec.out (a0 m c) (a1 m c) (a2 m c) (a3 m c) (a4 m c) (a5 m c) (a6 m c) (a7 m c) (i 0) (i 1) := by
  refine (Launch.dat2 m A c).arrAt_eq_of_covers 5 _ (by decide +kernel) fun t hf y => ?_
  blk_simp
  rw [after2_5]
  unfold outsAt2
  frame_out
  refine Eq.trans (congrArg _ (?_ : _ = (ix2 ((win2 5).xinj (grid2.coords t) y 0) ((win2 5).xinj (grid2.coords t) y 1) : S1024x2048.Idx)))
    ((block m c A hA hL hS t _ _ (((View.whole main_v12).slice (win2_5.rect t)).emb y 1) ?_).trans (congrArg₂ (Spec.out _ _ _ _ _ _ _ _) (Fin.ext ?_) rfl))
  · funext a
    match a with
    | ⟨0, _⟩ => rfl
    | ⟨1, _⟩ => rfl
  · blk_simp [idx t]
  · blk_simp [idx t]

end Cert.KernelIdeal.K2Value
-- ==== Proof.KernelIdeal.Value.Finite.lean ====
/-
  The precondition read: hidden states, weights and bias hold real numbers, so no logit is `⊤`, some logit of every row is not `⊥`, and no
  row's sum of exponentials is zero.
-/
module

public import proofs.«01_k».proof.Pre_finite
public import proofs.«01_k».proof.Proof.KernelIdeal.Value.Spec
public import Idealize.ShloMosaic.Lib.ReduceAll

@[expose] public section

noncomputable section

namespace Cert.KernelIdeal.Finite

open Idealize.ShloMosaic Cert.KernelIdeal

/-- The precondition's shape relations. -/
theorem facts : Cert.Pre_finite.Facts where
  bcast_S_S2048x1024 := by decide
  reducesTo_S2048x1024_S_d0_1 := by decide
  h_S_ := by decide
  bcast_S_S50000x1024 := by decide
  reducesTo_S50000x1024_S_d0_1 := by decide
  bcast_S_S50000 := by decide
  reducesTo_S50000_S_d0 := by decide

/-- A real number. -/
def IsReal (x : EReal) : Prop := ∃ r : ℝ, x = r

/-- A number whose absolute value is below `⊤` is real. -/
theorem real_of {x : EReal} (h : Ideal.cmp .olt (max x (-x)) ⊤ = 1#1) : IsReal x := by
  induction x with
  | bot => exact absurd h (by simp [Ideal.cmp])
  | top => exact absurd h (by simp [Ideal.cmp])
  | coe r => exact ⟨r, rfl⟩

theorem IsReal.add {x y : EReal} : IsReal x → IsReal y → IsReal (x + y) := fun ⟨a, ha⟩ ⟨b, hb⟩ => ⟨a + b, by rw [ha, hb, EReal.coe_add]⟩
theorem IsReal.mul {x y : EReal} : IsReal x → IsReal y → IsReal (x * y) := fun ⟨a, ha⟩ ⟨b, hb⟩ => ⟨a * b, by rw [ha, hb, EReal.coe_mul]⟩

/-- The word of the comparison's bound is `⊤`. -/
theorem bound : (FloatOps.ofBits .f32 0x7F800000#32 : Ideal .f32) = (⊤ : EReal) := by
  simp [Ideal.ofBits_def, Ideal.ofBits, Ideal.ieee]

attribute [local instance] facts

/-- What the precondition says of the three arrays. -/
theorem reals (x0 : S2048x1024.Idx → EReal) (x1 : S2048x512.Idx → EReal) (x2 : S16x512x512.Idx → EReal) (x3 : S50000x1024.Idx → EReal)
    (x4 : S50000.Idx → EReal) (x5 : S1024.Idx → EReal) (x6 : S1.Idx → EReal) (x7 : S_.Idx → BitVec 32)
    (h : Cert.Pre_finite.fn (F := Ideal) x0 x1 x2 x3 x4 x5 x6 x7 = fun _ => 1#1) :
    (∀ i, IsReal (x0 i)) ∧ (∀ i, IsReal (x3 i)) ∧ ∀ i, IsReal (x4 i) := by
  have h' := congrFun h ix0
  dsimp only [Cert.Pre_finite.fn] at h'
  obtain ⟨h03, h4⟩ := IntOp.andi_eq_one.1 h'
  obtain ⟨h0, h3⟩ := IntOp.andi_eq_one.1 h03
  refine ⟨fun i => real_of ?_, fun i => real_of ?_, fun i => real_of ?_⟩
  · have := Host.reduce_andi_all _ _ _ _ ix0 h0 i
    rw [← bound]
    exact this
  · have := Host.reduce_andi_all _ _ _ _ ix0 h3 i
    rw [← bound]
    exact this
  · have := Host.reduce_andi_all _ _ _ _ ix0 h4 i
    rw [← bound]
    exact this

variable {x0 : S2048x1024.Idx → EReal} {x3 : S50000x1024.Idx → EReal} {x4 : S50000.Idx → EReal} (x7 : S_.Idx → BitVec 32)
  (h0 : ∀ i, IsReal (x0 i)) (h3 : ∀ i, IsReal (x3 i)) (h4 : ∀ i, IsReal (x4 i))
include h0 h3

/-- A row's product with the weights is real. -/
theorem dot_real (r : Fin 2048) (j : Fin 50000) : IsReal (∑ k : Fin 1024, x0 (ix2 r k) * x3 (ix2 j k)) :=
  Finset.sum_induction _ IsReal (fun _ _ => IsReal.add) ⟨0, rfl⟩ fun _ _ => (h0 _).mul (h3 _)

include h4

/-- No logit is `⊤`. -/
theorem logit_ne_top (r : Fin 2048) (j : ℕ) : Spec.logit x0 x3 x4 x7 r j ≠ ⊤ := by
  unfold Spec.logit Spec.bias
  split
  · next h =>
    split
    · rw [EReal.add_bot]
      exact bot_ne_top
    · obtain ⟨a, e⟩ := (dot_real h0 h3 r ⟨j, h⟩).add (h4 (ix1 ⟨j, h⟩))
      rw [e]
      exact EReal.coe_ne_top a
  · exact bot_ne_top

/-- A column other than the padding column has a logit that is not `⊥`. -/
theorem logit_ne_bot (r : Fin 2048) {j : ℕ} (hj : j < 50000) (hp : (Spec.padWord x7).toInt ≠ (j : Int)) : Spec.logit x0 x3 x4 x7 r j ≠ ⊥ := by
  unfold Spec.logit Spec.bias
  rw [dif_pos hj, if_neg hp]
  obtain ⟨a, e⟩ := (dot_real h0 h3 r ⟨j, hj⟩).add (h4 (ix1 ⟨j, hj⟩))
  rw [e]
  exact EReal.coe_ne_bot a

/-- So a row's sum of exponentials is not zero: column 0 or column 1 is not the padding column. -/
theorem mass_ne_zero (r : Fin 2048) : Online.mass (Spec.logit x0 x3 x4 x7 r) 50000 ≠ 0 := by
  have hL := logit_ne_top x7 h0 h3 h4 r
  by_cases hp : (Spec.padWord x7).toInt = ((0 : ℕ) : Int)
  · exact Online.mass_ne_zero hL (j := 1) (by decide) (logit_ne_bot x7 h0 h3 h4 r (by decide) (by rw [hp]; decide))
  · exact Online.mass_ne_zero hL (j := 0) (by decide) (logit_ne_bot x7 h0 h3 h4 r (by decide) hp)

end Cert.KernelIdeal.Finite
-- ==== Proof.KernelIdeal.Value.Reference.lean ====
/-
  The reference's result is the plain function `Spec.out` of its arguments.
-/
module

public import proofs.«01_k».proof.Proof.KernelIdeal.Value.Spec
public import proofs.«01_k».proof.Proof.Gen.ReferenceIdeal.Read

@[expose] public section

noncomputable section

namespace Cert.ReferenceIdeal.Meaning

open Idealize.ShloMosaic Cert.ReferenceIdeal Cert.ReferenceIdeal.Read
open Cert.KernelIdeal (Spec.logit Spec.gate Spec.bias Spec.padWord Spec.genPart Spec.copyPart Spec.out Spec.batch)

variable (x0 : S2048x1024.Idx → EReal) (x1 : S2048x512.Idx → EReal) (x2 : S16x512x512.Idx → EReal) (x3 : S50000x1024.Idx → EReal)
  (x4 : S50000.Idx → EReal) (x5 : S1024.Idx → EReal) (x6 : S1.Idx → EReal) (x7 : S_.Idx → BitVec 32)

/-- The word `0xFF800000` is `⊥`. -/
theorem ofBits_bot : Ideal.ofBits .f32 0xFF800000#32 = ⊥ := by
  simp [Ideal.ofBits, Ideal.ieee]

/-- The word `0x3F800000` is one. -/
theorem ofBits_one : Ideal.ofBits .f32 0x3F800000#32 = 1 := by
  simp [Ideal.ofBits, Ideal.ieee, -EReal.coe_mul]; norm_num

/-- The masked logits. -/
theorem v10 (r : Fin 2048) (j : Fin 50000) : val_main_v10 (F := Ideal) x0 x3 x4 x7 (ix2 r j) = Cert.KernelIdeal.Spec.logit x0 x3 x4 x7 r j.val := by
  unfold val_main_v10
  rw [Cert.KernelIdeal.Mask.scatter_mat _ _ _ ⊥ fun k => by rw [val_main_v9_apply, val_main_cst_apply, Ideal.ofBits_def, ofBits_bot]]
  unfold val_main_v8 val_main_v7 val_main_v6 val_main_v5 val_main_c val_main_c_0 val_main_v4 val_main_v3 val_main_v2 val_main_v1 val_main_v0
  pointwise
  unfold Spec.logit Spec.bias Spec.padWord
  rw [dif_pos j.isLt]
  split
  · exact (EReal.add_bot _).symm
  · rfl

/-- A row's maximum as the reference takes it. -/
theorem reduce_max {n0 n1 : ℕ} {u : Shape} (x : (⟨2, ![n0, n1]⟩ : Shape).Idx → EReal) (init : u.Idx → EReal)
    (h : (⟨2, ![n0, n1]⟩ : Shape).ReducesTo [1] ⟨1, ![n0]⟩) (hu : 0 < u.numel) (r : Fin n0) :
    Host.reduce (FloatOps.maximumf (F := Ideal) (φ := .f32)) x init h hu (ix1 r)
      = (Finset.univ : Finset (Fin n1)).fold max (init (Shape.Idx.first hu)) fun k => x (ix2 r k) := by
  rw [Host.reduce_eq_fold, Shape.ReducesTo.fold_fiber_r2_a1]
  rfl

/-- The rows' maxima. -/
theorem v13 (r : Fin 2048) : val_main_v13 (F := Ideal) x0 x3 x4 x7 (ix1 r) = Cert.KernelIdeal.Online.top (Cert.KernelIdeal.Spec.logit x0 x3 x4 x7 r) 50000 := by
  rw [val_main_v13_apply, val_main_v12_apply, val_main_cst_2_apply]
  unfold val_main_v11
  rw [reduce_max, val_main_cst_1_apply, Ideal.ofBits_def, ofBits_bot,
    Cert.KernelIdeal.Online.fold_eq_top 50000 _ fun k => v10 x0 x3 x4 x7 r k]
  exact max_eq_right bot_le

/-- The exponentials. -/
theorem v17 (r : Fin 2048) (j : Fin 50000) : val_main_v17 (F := Ideal) x0 x3 x4 x7 (ix2 r j)
    = Ideal.exp (Cert.KernelIdeal.Spec.logit x0 x3 x4 x7 r j.val - Cert.KernelIdeal.Online.top (Cert.KernelIdeal.Spec.logit x0 x3 x4 x7 r) 50000) := by
  rw [← v10, ← v13]
  unfold val_main_v17 val_main_v16 val_main_v15 val_main_v14
  generalize val_main_v10 (F := Ideal) x0 x3 x4 x7 = y
  generalize val_main_v13 (F := Ideal) x0 x3 x4 x7 = z
  pointwise

/-- The gate. -/
theorem v31 (r : Fin 2048) : val_main_v31 (F := Ideal) x0 x5 x6 (ix1 r) = Cert.KernelIdeal.Spec.gate x0 x5 x6 r := by
  unfold val_main_v31 val_main_v30 val_main_v29 val_main_v28 val_main_v27 val_main_v26 val_main_v25 val_main_v24 val_main_v23 val_main_v22
    val_main_cst_4 val_main_cst_5 Spec.gate
  pointwise

/-- The generated part. -/
theorem v36 (r : Fin 2048) (j : Fin 50000) : val_main_v36 (F := Ideal) x0 x3 x4 x5 x6 x7 (ix2 r j) = Cert.KernelIdeal.Spec.genPart x0 x3 x4 x5 x6 x7 r j.val := by
  have h18 : val_main_v18 (F := Ideal) x0 x3 x4 x7 (ix1 r) = Cert.KernelIdeal.Online.mass (Cert.KernelIdeal.Spec.logit x0 x3 x4 x7 r) 50000 := by
    rw [val_main_v18_apply, val_main_cst_3_apply, Ideal.ofBits_def, Ideal.ofBits_zero_f32, zero_add]
    refine Cert.KernelIdeal.Online.sum_eq_mass 50000 _ fun k => ?_
    rw [← v17 x0 x3 x4 x7 r k]
    congr 1
    funext a
    match a with | ⟨0, _⟩ => rfl | ⟨1, _⟩ => rfl
  unfold Spec.genPart
  rw [← v17, ← h18, ← v31]
  unfold val_main_v36 val_main_v35 val_main_v34 val_main_v33 val_main_v32 val_main_v21 val_main_v20 val_main_v19 val_main_cst_6
  generalize val_main_v17 (F := Ideal) x0 x3 x4 x7 = y
  generalize val_main_v18 (F := Ideal) x0 x3 x4 x7 = z
  generalize val_main_v31 (F := Ideal) x0 x5 x6 = g
  pointwise

/-- The copied part. -/
theorem v41 (r : Fin 2048) (j : Fin 512) : val_main_v41 (F := Ideal) x0 x1 x2 x5 x6 (ix2 r j) = Cert.KernelIdeal.Spec.copyPart x0 x1 x2 x5 x6 r j := by
  unfold Spec.copyPart
  rw [← v31]
  unfold val_main_v41 val_main_v40 val_main_v39 val_main_v38 val_main_v37 val_main_v32
  generalize val_main_v31 (F := Ideal) x0 x5 x6 = g
  pointwise
  rfl

/-- The reference's result is the plain function of its arguments. -/
theorem v42 (r : Fin 2048) (j : Fin 50512) : val_main_v42 (F := Ideal) x0 x1 x2 x3 x4 x5 x6 x7 (ix2 r j) = Cert.KernelIdeal.Spec.out x0 x1 x2 x3 x4 x5 x6 x7 r j := by
  unfold val_main_v42 Spec.out
  split
  · next h =>
    rw [← v36 x0 x3 x4 x5 x6 x7 r ⟨j.val, h⟩]
    exact concatenate_pair_apply_left (t := S2048x50512) (s₁ := S2048x50000) (s₂ := S2048x512) 1 _ _ _ (ix2 r j) rfl (ix2 r (⟨j.val, h⟩ : Fin 50000)) fun | ⟨0, _⟩ => rfl | ⟨1, _⟩ => rfl
  · next h =>
    rw [← v41]
    exact concatenate_pair_apply_right (t := S2048x50512) (s₁ := S2048x50000) (s₂ := S2048x512) 1 _ _ _ (ix2 r j) rfl rfl (ix2 r (⟨j.val - 50000, by omega⟩ : Fin 512)) (fun | ⟨0, _⟩ => fun _ => rfl | ⟨1, _⟩ => fun q => absurd rfl q)
      (Nat.sub_add_cancel (Nat.le_of_not_lt h))

end Cert.ReferenceIdeal.Meaning
-- ==== Proof.lean ====
/- The certificate: the frames of the three programs, the value of the named constant, and the equality of the kernel's result and the
   reference's over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Own.Kernel.K0.Frame
public import proofs.«01_k».proof.Proof.Gen.Own.Kernel.K2.Frame
public import proofs.«01_k».proof.Proof.Gen.Own.Kernel.RegionsD
public import proofs.«01_k».proof.Proof.Gen.Own.KernelIdeal.K0.Frame
public import proofs.«01_k».proof.Proof.Gen.Own.KernelIdeal.K2.Frame
public import proofs.«01_k».proof.Proof.Gen.Own.KernelIdeal.RegionsD
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.Kernel.Run
public import proofs.«01_k».proof.Proof.KernelIdeal.Run
public import proofs.«01_k».proof.Proof.KernelIdeal.Value.K2Value
public import proofs.«01_k».proof.Proof.KernelIdeal.Value.Finite
public import proofs.«01_k».proof.Proof.KernelIdeal.Value.Reference

@[expose] public section

noncomputable section

namespace Cert.Proof

open Idealize.ShloMosaic Idealize.SL.Sem

/-- The kernel as printed: it terminates without fault, its arguments unchanged, every semaphore at zero. -/
theorem kernel_frame : quiescent_Kernel (hKernel := Cert.Kernel.Gen.facts) := fun m g _ =>
  (θ_run _ _ _).mono (fun _ h => ⟨fun c => (h.1 c).1, h.2⟩) (Cert.Kernel.Launch.run_main m g)

/-- The kernel over the extended reals: the same. -/
theorem ideal_frame : quiescent_KernelIdeal (hKernelIdeal := Cert.KernelIdeal.Gen.facts) := fun m g _ =>
  (θ_run _ _ _).mono (fun _ h => ⟨fun c => (h.1 c).1, h.2⟩) (Cert.KernelIdeal.Launch.run_main m g)

/-- The reference: the same. -/
theorem reference_frame : quiescent_ReferenceIdeal (hReferenceIdeal := Cert.ReferenceIdeal.Gen.facts) := fun m g _ =>
  (θ_run _ _ _).mono (fun _ h => ⟨fun c => (h c).2, sem_eq_zero_of_no_sems (by decide) _⟩) (Cert.ReferenceIdeal.Value.run m g)

/-- The word of −1e30 is named, and its name's value is −∞. -/
theorem named : preserves_Kernel_KernelIdeal :=
  IdealRules.named_const.statement Cert.KernelIdeal.κ "neg" .f32 0xF149F2CA#32 ⊥ rfl

/-- The kernel's result, as a plain function of the arguments. -/
theorem kernel_value (m : (ℓ : Loc Cert.KernelIdeal.nD Cert.KernelIdeal.τ Cert.KernelIdeal.sig) → Buf (Elt Ideal) ℓ) (c : Dev Cert.KernelIdeal.nD)
    (hpre : @Cert.Pre_finite.fn Cert.KernelIdeal.Finite.facts Ideal _ (Cert.KernelIdeal.K0Value.a0 m c) (Cert.KernelIdeal.K0Value.a1 m c) (Cert.KernelIdeal.K0Value.a2 m c) (Cert.KernelIdeal.K0Value.a3 m c)
      (Cert.KernelIdeal.K0Value.a4 m c) (Cert.KernelIdeal.K0Value.a5 m c) (Cert.KernelIdeal.K0Value.a6 m c) (Cert.KernelIdeal.K0Value.a7 m c) = fun _ => 1#1)
    (A : Cert.KernelIdeal.Launch.Arrs (F := Ideal)) (hA : ∀ w, (Cert.KernelIdeal.Launch.rdat1 m c).ArrAt w Cert.KernelIdeal.cfg1.N (A c w)) :
    (Cert.KernelIdeal.Launch.dat2 m A c).arrAt 5 Cert.KernelIdeal.cfg2.N
      = fun i => Cert.KernelIdeal.Spec.out (Cert.KernelIdeal.K0Value.a0 m c) (Cert.KernelIdeal.K0Value.a1 m c) (Cert.KernelIdeal.K0Value.a2 m c) (Cert.KernelIdeal.K0Value.a3 m c) (Cert.KernelIdeal.K0Value.a4 m c) (Cert.KernelIdeal.K0Value.a5 m c) (Cert.KernelIdeal.K0Value.a6 m c)
        (Cert.KernelIdeal.K0Value.a7 m c) (i 0) (i 1) := by
  obtain ⟨h0, h3, h4⟩ := Cert.KernelIdeal.Finite.reals _ _ _ _ _ _ _ _ hpre
  exact Cert.KernelIdeal.K2Value.out_final m c A hA (Cert.KernelIdeal.Finite.logit_ne_top _ h0 h3 h4) (Cert.KernelIdeal.Finite.mass_ne_zero _ h0 h3 h4)

/-- The reference's result, as the same function of its arguments. -/
theorem reference_value (m : (ℓ : Loc Cert.ReferenceIdeal.nD Cert.ReferenceIdeal.τ Cert.ReferenceIdeal.sig) → Buf (Elt Ideal) ℓ)
    (c : Dev Cert.ReferenceIdeal.nD) (x0 : Cert.KernelIdeal.S2048x1024.Idx → EReal) (x1 : Cert.KernelIdeal.S2048x512.Idx → EReal)
    (x2 : Cert.KernelIdeal.S16x512x512.Idx → EReal) (x3 : Cert.KernelIdeal.S50000x1024.Idx → EReal) (x4 : Cert.KernelIdeal.S50000.Idx → EReal)
    (x5 : Cert.KernelIdeal.S1024.Idx → EReal) (x6 : Cert.KernelIdeal.S1.Idx → EReal) (x7 : Cert.KernelIdeal.S_.Idx → BitVec 32)
    (h0 : m ((c.tc : Thread Cert.ReferenceIdeal.nD Cert.ReferenceIdeal.τ).loc Cert.ReferenceIdeal.main_arg0) = x0)
    (h1 : m ((c.tc : Thread Cert.ReferenceIdeal.nD Cert.ReferenceIdeal.τ).loc Cert.ReferenceIdeal.main_arg1) = x1)
    (h2 : m ((c.tc : Thread Cert.ReferenceIdeal.nD Cert.ReferenceIdeal.τ).loc Cert.ReferenceIdeal.main_arg2) = x2)
    (h3 : m ((c.tc : Thread Cert.ReferenceIdeal.nD Cert.ReferenceIdeal.τ).loc Cert.ReferenceIdeal.main_arg3) = x3)
    (h4 : m ((c.tc : Thread Cert.ReferenceIdeal.nD Cert.ReferenceIdeal.τ).loc Cert.ReferenceIdeal.main_arg4) = x4)
    (h5 : m ((c.tc : Thread Cert.ReferenceIdeal.nD Cert.ReferenceIdeal.τ).loc Cert.ReferenceIdeal.main_arg5) = x5)
    (h6 : m ((c.tc : Thread Cert.ReferenceIdeal.nD Cert.ReferenceIdeal.τ).loc Cert.ReferenceIdeal.main_arg6) = x6)
    (h7 : m ((c.tc : Thread Cert.ReferenceIdeal.nD Cert.ReferenceIdeal.τ).loc Cert.ReferenceIdeal.main_arg7) = x7) :
    Cert.ReferenceIdeal.Value.res_main_v42 m c = fun i : Cert.KernelIdeal.S2048x50512.Idx => Cert.KernelIdeal.Spec.out x0 x1 x2 x3 x4 x5 x6 x7 (i 0) (i 1) := by
  rw [Cert.ReferenceIdeal.Read.val_main_v42_eq, h0, h1, h2, h3, h4, h5, h6, h7]
  funext i
  refine Eq.trans (congrArg _ (?_ : i = ix2 (i 0) (i 1))) (Cert.ReferenceIdeal.Meaning.v42 x0 x1 x2 x3 x4 x5 x6 x7 (i 0) (i 1))
  funext a
  match a with
  | ⟨0, _⟩ => rfl
  | ⟨1, _⟩ => rfl

/-- The kernel and the reference over the extended reals: equal results from equal arguments, where hidden states, weights and bias are real. -/
theorem equal_results : algebraic_KernelIdeal_ReferenceIdeal_pre_finite (hKernelIdeal := Cert.KernelIdeal.Gen.facts)
    (hReferenceIdeal := Cert.ReferenceIdeal.Gen.facts) (hPre_finite := Cert.KernelIdeal.Finite.facts) := by
  intro m g m' g' hpre hargs
  refine ⟨fun c i => Cert.KernelIdeal.Spec.out (Cert.KernelIdeal.K0Value.a0 m c) (Cert.KernelIdeal.K0Value.a1 m c) (Cert.KernelIdeal.K0Value.a2 m c) (Cert.KernelIdeal.K0Value.a3 m c) (Cert.KernelIdeal.K0Value.a4 m c) (Cert.KernelIdeal.K0Value.a5 m c) (Cert.KernelIdeal.K0Value.a6 m c)
        (Cert.KernelIdeal.K0Value.a7 m c) (i 0) (i 1), ?_, ?_⟩
  · refine (θ_run _ _ _).mono (fun r h c => ?_) (Cert.KernelIdeal.Launch.run_main m g)
    obtain ⟨ha, A, hA, hv⟩ := h.1 c
    exact ⟨hv.trans (kernel_value m c (hpre c) A hA), ha⟩
  · refine (θ_run _ _ _).mono (fun r h c => ?_) (Cert.ReferenceIdeal.Value.run m' g')
    obtain ⟨h0, h1, h2, h3, h4, h5, h6, h7⟩ := hargs c
    exact ⟨(h c).1.trans (reference_value m' c _ _ _ _ _ _ _ _ h0 h1 h2 h3 h4 h5 h6 h7), (h c).2⟩

/-- The claims together. -/
theorem claim : Cert.Claim := ⟨Cert.Kernel.Gen.facts, Cert.KernelIdeal.Gen.facts, Cert.ReferenceIdeal.Gen.facts, Cert.KernelIdeal.Finite.facts,
  kernel_frame, ideal_frame, fun m g _ => ideal_frame m g trivial, reference_frame, fun m g _ => reference_frame m g trivial, named, equal_results⟩

end Cert.Proof

end
